-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_ids_sorted_in_range [hPre_ids_sorted_in_range : Cert.Pre_ids_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted_in_range [hPre_ids_sorted_in_range : Cert.Pre_ids_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_sorted_in_range [hKernelIdeal : Cert.KernelIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_sorted_in_range [hReferenceIdeal : Cert.ReferenceIdeal.Facts] [hPre_ids_sorted_in_range : Cert.Pre_ids_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_sorted_in_range [hKernelIdeal : Cert.KernelIdeal.Facts] [hReferenceIdeal : Cert.ReferenceIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted_in_range : Cert.Pre_ids_sorted_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted_in_range (hKernelIdeal := hKernelIdeal) (hPre_ids_sorted_in_range := hPre_ids_sorted_in_range)
    ∧ quiescent_ReferenceIdeal (hReferenceIdeal := hReferenceIdeal)
    ∧ quiescent_ReferenceIdeal_pre_ids_sorted_in_range (hReferenceIdeal := hReferenceIdeal) (hPre_ids_sorted_in_range := hPre_ids_sorted_in_range)
    ∧ preserves_Kernel_KernelIdeal
    ∧ algebraic_KernelIdeal_ReferenceIdeal_pre_ids_sorted_in_range (hKernelIdeal := hKernelIdeal) (hReferenceIdeal := hReferenceIdeal) (hPre_ids_sorted_in_range := hPre_ids_sorted_in_range)
-- ==== Pre_ids_in_range.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : FVec F S320000x128 .f32) (main_arg1 : IVec S320000 32) (main_arg2 : FVec F S128x128 .f32) (main_arg3 : FVec F S128 .f32) : IVec S320000 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  main_v4
-- ==== Pre_ids_sorted_in_range.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S319999 : Shape := ⟨1, ![319999]⟩
abbrev S1 : Shape := ⟨1, ![1]⟩
abbrev S_ : Shape := ⟨0, ![]⟩

class Facts : Prop where
  slices_S320000_S319999_1 : S320000.Slices ![1] S319999
  slices_S320000_S1_319999 : S320000.Slices ![319999] S1
  concatenates_S319999_S1_S320000_d0 : Shape.Concatenates [S319999, S1] S320000 0
  bcast_S_S320000 : S_.BroadcastsInDim S320000 (![] : Fin 0 → Fin S320000.rank)

variable [Facts]

def fn {F : FTy → Type} [FloatOps F] (main_arg0 : FVec F S320000x128 .f32) (main_arg1 : IVec S320000 32) (main_arg2 : FVec F S128x128 .f32) (main_arg3 : FVec F S128 .f32) : IVec S320000 1 :=
  let main_v0 : IVec S319999 32 := (extractStridedSlice S319999 ![1] · slices_S320000_S319999_1) main_arg1
  let main_v1 : IVec S1 32 := (extractStridedSlice S1 ![319999] · slices_S320000_S1_319999) main_arg1
  let main_v2 : IVec S320000 32 := (fun a b => concatenate S320000 0 [⟨S319999, a⟩, ⟨S1, b⟩] concatenates_S319999_S1_S320000_d0) main_v0 main_v1
  let main_c : IVec S_ 32 := constantI S_ 32 0#32
  let main_v3 : IVec S320000 32 := broadcastInDim S320000 ![] bcast_S_S320000 main_c
  let main_v4 : IVec S320000 1 := cmpi .sge main_arg1 main_v3
  let main_c_0 : IVec S_ 32 := constantI S_ 32 10000#32
  let main_v5 : IVec S320000 32 := broadcastInDim S320000 ![] bcast_S_S320000 main_c_0
  let main_v6 : IVec S320000 1 := cmpi .slt main_arg1 main_v5
  let main_v7 : IVec S320000 1 := andi main_v4 main_v6
  let main_v8 : IVec S320000 1 := cmpi .sle main_arg1 main_v2
  let main_v9 : IVec S320000 1 := andi main_v7 main_v8
  main_v9
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S20x1x16000 : Shape := ⟨3, ![20, 1, 16000]⟩
abbrev S1x128 : Shape := ⟨2, ![1, 128]⟩
abbrev S10000x128 : Shape := ⟨2, ![10000, 128]⟩
abbrev S1x1x16000 : Shape := ⟨3, ![1, 1, 16000]⟩
abbrev S16000x128 : Shape := ⟨2, ![16000, 128]⟩
abbrev S10128x128 : Shape := ⟨2, ![10128, 128]⟩
abbrev S16000 : Shape := ⟨1, ![16000]⟩
abbrev S128x3200 : Shape := ⟨2, ![128, 3200]⟩
abbrev S3200 : Shape := ⟨1, ![3200]⟩
abbrev S3200x128 : Shape := ⟨2, ![3200, 128]⟩
abbrev S1 : Shape := ⟨1, ![1]⟩
abbrev S1x3200 : Shape := ⟨2, ![1, 3200]⟩
abbrev S128x1 : Shape := ⟨2, ![128, 1]⟩

abbrev nBuf : Space → Nat
  | .hbm => 8
  | .vmem => 9
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S20x1x16000, .i32⟩
  | .hbm, ⟨5, _⟩ => ⟨S128x128, .f32⟩
  | .hbm, ⟨6, _⟩ => ⟨S1x128, .f32⟩
  | .hbm, ⟨7, _⟩ => ⟨S10000x128, .f32⟩
  | .local _ .vmem, ⟨0, _⟩ => ⟨S1x1x16000, .i32⟩
  | .local _ .vmem, ⟨1, _⟩ => ⟨S1x1x16000, .i32⟩
  | .local _ .vmem, ⟨2, _⟩ => ⟨S16000x128, .f32⟩
  | .local _ .vmem, ⟨3, _⟩ => ⟨S16000x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10128x128, .f32⟩
  | .local _ .vmem, ⟨8, _⟩ => ⟨S10128x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![20], ![false]⟩

def k0_off1 (v19 : BitVec 32) : Fin 2 → Nat :=
  let c_m8_i32 : BitVec 32 := 4294967288#32
  let v20 : BitVec 32 := Scalar.andi v19 c_m8_i32
  let c0_i32_18 : BitVec 32 := 0#32
  let v45 : BitVec 32 := Scalar.addi v20 c0_i32_18
  let v54 : Index := Scalar.indexCast v45
  let c0_21 : Index := 0#32
  ![v54.toNat, 0]

def k0_chk1 (v19 : BitVec 32) : Prop :=
  (∀ a, (k0_off1 v19) a + S128x128.size a ≤ S10128x128.size a)
theorem k0_off1_inb : ∀ (v19 : BitVec 32) (k0_hw1 : k0_chk1 v19), ∀ a, (k0_off1 v19) a + S128x128.size a ≤ S10128x128.size a := fun v19 k0_hw1 => k0_hw1

@[reducible] def k0_t1_loop (v19 : BitVec 32) (v22 : BitVec 32) : Scf.Loop 32 :=
  let c1_i32_108 : BitVec 32 := 1#32
  let c_m8_i32 : BitVec 32 := 4294967288#32
  let v20 : BitVec 32 := Scalar.andi v19 c_m8_i32
  let v23 : BitVec 32 := Scalar.subi v22 v20
  let c1_i32 : BitVec 32 := 1#32
  let v24 : BitVec 32 := Scalar.addi v23 c1_i32
  let c128_i32 : BitVec 32 := 128#32
  let v25 : BitVec 32 := Scalar.addi v24 c128_i32
  let c1_i32_10 : BitVec 32 := 1#32
  let v26 : BitVec 32 := Scalar.subi v25 c1_i32_10
  let c0_i32_12 : BitVec 32 := 0#32
  let v28 : BitVec 1 := Scalar.cmpi .sgt v26 c0_i32_12
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c128_i32_11 : BitVec 32 := 128#32
  let c0_i32_14 : BitVec 32 := 0#32
  let v33 : BitVec 1 := Scalar.cmpi .sgt c128_i32_11 c0_i32_14
  let v34 : BitVec 32 := Scalar.extui v33
  let c0_i32_15 : BitVec 32 := 0#32
  let v35 : BitVec 1 := Scalar.cmpi .slt c128_i32_11 c0_i32_15
  let v36 : BitVec 32 := Scalar.extui v35
  let v37 : BitVec 32 := Scalar.subi v34 v36
  let v38 : BitVec 1 := Scalar.cmpi .ne v32 v37
  let v39 : BitVec 32 := Scalar.remsi v26 c128_i32_11
  let c0_i32_16 : BitVec 32 := 0#32
  let v40 : BitVec 1 := Scalar.cmpi .ne v39 c0_i32_16
  let v41 : BitVec 1 := Scalar.andi v38 v40
  let v27 : BitVec 32 := Scalar.divsi v26 c128_i32_11
  let c1_i32_17 : BitVec 32 := 1#32
  let v42 : BitVec 32 := Scalar.subi v27 c1_i32_17
  let v43 : BitVec 32 := Scalar.select v41 v42 v27
  let v304 : BitVec 32 := Scalar.subi v43 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_110 : BitVec 32 := 1#32
  ⟨c1_i32_108, v308, c1_i32_110⟩
def k0_cond2 (v19 : BitVec 32) (v22 : BitVec 32) : BitVec 1 :=
  let c_m8_i32 : BitVec 32 := 4294967288#32
  let v20 : BitVec 32 := Scalar.andi v19 c_m8_i32
  let v23 : BitVec 32 := Scalar.subi v22 v20
  let c1_i32 : BitVec 32 := 1#32
  let v24 : BitVec 32 := Scalar.addi v23 c1_i32
  let c128_i32 : BitVec 32 := 128#32
  let v25 : BitVec 32 := Scalar.addi v24 c128_i32
  let c1_i32_10 : BitVec 32 := 1#32
  let v26 : BitVec 32 := Scalar.subi v25 c1_i32_10
  let c0_i32_12 : BitVec 32 := 0#32
  let v28 : BitVec 1 := Scalar.cmpi .sgt v26 c0_i32_12
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c128_i32_11 : BitVec 32 := 128#32
  let c0_i32_14 : BitVec 32 := 0#32
  let v33 : BitVec 1 := Scalar.cmpi .sgt c128_i32_11 c0_i32_14
  let v34 : BitVec 32 := Scalar.extui v33
  let c0_i32_15 : BitVec 32 := 0#32
  let v35 : BitVec 1 := Scalar.cmpi .slt c128_i32_11 c0_i32_15
  let v36 : BitVec 32 := Scalar.extui v35
  let v37 : BitVec 32 := Scalar.subi v34 v36
  let v38 : BitVec 1 := Scalar.cmpi .ne v32 v37
  let v39 : BitVec 32 := Scalar.remsi v26 c128_i32_11
  let c0_i32_16 : BitVec 32 := 0#32
  let v40 : BitVec 1 := Scalar.cmpi .ne v39 c0_i32_16
  let v41 : BitVec 1 := Scalar.andi v38 v40
  let v27 : BitVec 32 := Scalar.divsi v26 c128_i32_11
  let c1_i32_17 : BitVec 32 := 1#32
  let v42 : BitVec 32 := Scalar.subi v27 c1_i32_17
  let v43 : BitVec 32 := Scalar.select v41 v42 v27
  let c1_i32_25 : BitVec 32 := 1#32
  let v70 : BitVec 1 := Scalar.cmpi .sgt v43 c1_i32_25
  let v71 : BitVec 32 := Scalar.extui v70
  let c0_i32_26 : BitVec 32 := 0#32
  let v72 : BitVec 1 := Scalar.cmpi .ne v71 c0_i32_26
  v72

def k0_off2 (v19 : BitVec 32) (v22 : BitVec 32) (k0_t1 : Fin (k0_t1_loop v19 v22).trips) : Fin 2 → Nat :=
  let c_m8_i32 : BitVec 32 := 4294967288#32
  let v20 : BitVec 32 := Scalar.andi v19 c_m8_i32
  let c1_i32_108 : BitVec 32 := 1#32
  let c1_i32_110 : BitVec 32 := 1#32
  let arg8 : BitVec 32 := Scf.iv c1_i32_108 c1_i32_110 k0_t1
  let c128_i32_112 : BitVec 32 := 128#32
  let v309 : BitVec 32 := Scalar.muli arg8 c128_i32_112
  let v310 : BitVec 32 := Scalar.addi v20 v309
  let v319 : Index := Scalar.indexCast v310
  let c0_115 : Index := 0#32
  ![v319.toNat, 0]
@[reducible] def k0_t2_loop (v19 : BitVec 32) (v22 : BitVec 32) : Scf.Loop 32 :=
  let c1_i32_108 : BitVec 32 := 1#32
  let c_m8_i32 : BitVec 32 := 4294967288#32
  let v20 : BitVec 32 := Scalar.andi v19 c_m8_i32
  let v23 : BitVec 32 := Scalar.subi v22 v20
  let c1_i32 : BitVec 32 := 1#32
  let v24 : BitVec 32 := Scalar.addi v23 c1_i32
  let c128_i32 : BitVec 32 := 128#32
  let v25 : BitVec 32 := Scalar.addi v24 c128_i32
  let c1_i32_10 : BitVec 32 := 1#32
  let v26 : BitVec 32 := Scalar.subi v25 c1_i32_10
  let c0_i32_12 : BitVec 32 := 0#32
  let v28 : BitVec 1 := Scalar.cmpi .sgt v26 c0_i32_12
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c128_i32_11 : BitVec 32 := 128#32
  let c0_i32_14 : BitVec 32 := 0#32
  let v33 : BitVec 1 := Scalar.cmpi .sgt c128_i32_11 c0_i32_14
  let v34 : BitVec 32 := Scalar.extui v33
  let c0_i32_15 : BitVec 32 := 0#32
  let v35 : BitVec 1 := Scalar.cmpi .slt c128_i32_11 c0_i32_15
  let v36 : BitVec 32 := Scalar.extui v35
  let v37 : BitVec 32 := Scalar.subi v34 v36
  let v38 : BitVec 1 := Scalar.cmpi .ne v32 v37
  let v39 : BitVec 32 := Scalar.remsi v26 c128_i32_11
  let c0_i32_16 : BitVec 32 := 0#32
  let v40 : BitVec 1 := Scalar.cmpi .ne v39 c0_i32_16
  let v41 : BitVec 1 := Scalar.andi v38 v40
  let v27 : BitVec 32 := Scalar.divsi v26 c128_i32_11
  let c1_i32_17 : BitVec 32 := 1#32
  let v42 : BitVec 32 := Scalar.subi v27 c1_i32_17
  let v43 : BitVec 32 := Scalar.select v41 v42 v27
  let v304 : BitVec 32 := Scalar.subi v43 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let v305 : BitVec 32 := Scalar.addi c1_i32_108 v304
  let c1_i32_111 : BitVec 32 := 1#32
  ⟨v308, v305, c1_i32_111⟩
def k0_off3 (v19 : BitVec 32) (v22 : BitVec 32) (k0_t2 : Fin (k0_t2_loop v19 v22).trips) : Fin 2 → Nat :=
  let c_m8_i32 : BitVec 32 := 4294967288#32
  let v20 : BitVec 32 := Scalar.andi v19 c_m8_i32
  let c1_i32_108 : BitVec 32 := 1#32
  let v23 : BitVec 32 := Scalar.subi v22 v20
  let c1_i32 : BitVec 32 := 1#32
  let v24 : BitVec 32 := Scalar.addi v23 c1_i32
  let c128_i32 : BitVec 32 := 128#32
  let v25 : BitVec 32 := Scalar.addi v24 c128_i32
  let c1_i32_10 : BitVec 32 := 1#32
  let v26 : BitVec 32 := Scalar.subi v25 c1_i32_10
  let c0_i32_12 : BitVec 32 := 0#32
  let v28 : BitVec 1 := Scalar.cmpi .sgt v26 c0_i32_12
  let v29 : BitVec 32 := Scalar.extui v28
  let c0_i32_13 : BitVec 32 := 0#32
  let v30 : BitVec 1 := Scalar.cmpi .slt v26 c0_i32_13
  let v31 : BitVec 32 := Scalar.extui v30
  let v32 : BitVec 32 := Scalar.subi v29 v31
  let c128_i32_11 : BitVec 32 := 128#32
  let c0_i32_14 : BitVec 32 := 0#32
  let v33 : BitVec 1 := Scalar.cmpi .sgt c128_i32_11 c0_i32_14
  let v34 : BitVec 32 := Scalar.extui v33
  let c0_i32_15 : BitVec 32 := 0#32
  let v35 : BitVec 1 := Scalar.cmpi .slt c128_i32_11 c0_i32_15
  let v36 : BitVec 32 := Scalar.extui v35
  let v37 : BitVec 32 := Scalar.subi v34 v36
  let v38 : BitVec 1 := Scalar.cmpi .ne v32 v37
  let v39 : BitVec 32 := Scalar.remsi v26 c128_i32_11
  let c0_i32_16 : BitVec 32 := 0#32
  let v40 : BitVec 1 := Scalar.cmpi .ne v39 c0_i32_16
  let v41 : BitVec 1 := Scalar.andi v38 v40
  let v27 : BitVec 32 := Scalar.divsi v26 c128_i32_11
  let c1_i32_17 : BitVec 32 := 1#32
  let v42 : BitVec 32 := Scalar.subi v27 c1_i32_17
  let v43 : BitVec 32 := Scalar.select v41 v42 v27
  let v304 : BitVec 32 := Scalar.subi v43 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_111 : BitVec 32 := 1#32
  let arg8 : BitVec 32 := Scf.iv v308 c1_i32_111 k0_t2
  let c128_i32_112 : BitVec 32 := 128#32
  let v309 : BitVec 32 := Scalar.muli arg8 c128_i32_112
  let v310 : BitVec 32 := Scalar.addi v20 v309
  let v319 : Index := Scalar.indexCast v310
  let c0_115 : Index := 0#32
  ![v319.toNat, 0]

def k0_chk2 (v19 : BitVec 32) (v22 : BitVec 32) : Prop :=
  (∀ (k0_h2 : k0_cond2 v19 v22 = 1#1), (k0_t1_loop v19 v22).OK) ∧
  (∀ k0_t1 : Fin (k0_t1_loop v19 v22).trips, ∀ (k0_h2 : k0_cond2 v19 v22 = 1#1), ∀ a, (k0_off2 v19 v22 k0_t1) a + S128x128.size a ≤ S10128x128.size a) ∧
  (∀ (k0_h2 : k0_cond2 v19 v22 = 1#1), (k0_t2_loop v19 v22).OK) ∧
  (∀ k0_t2 : Fin (k0_t2_loop v19 v22).trips, ∀ (k0_h2 : k0_cond2 v19 v22 = 1#1), ∀ a, (k0_off3 v19 v22 k0_t2) a + S128x128.size a ≤ S10128x128.size a)
theorem k0_t1_ok : ∀ (v19 : BitVec 32) (v22 : BitVec 32) (k0_hw2 : k0_chk2 v19 v22), ∀ (k0_h2 : k0_cond2 v19 v22 = 1#1), (k0_t1_loop v19 v22).OK := fun v19 v22 k0_hw2 k0_h2 => k0_hw2.1 k0_h2
theorem k0_off2_inb : ∀ (v19 : BitVec 32) (v22 : BitVec 32) (k0_hw2 : k0_chk2 v19 v22) (k0_t1 : Fin (k0_t1_loop v19 v22).trips), ∀ (k0_h2 : k0_cond2 v19 v22 = 1#1), ∀ a, (k0_off2 v19 v22 k0_t1) a + S128x128.size a ≤ S10128x128.size a := fun v19 v22 k0_hw2 k0_t1 k0_h2 => k0_hw2.2.1 k0_t1 k0_h2
theorem k0_t2_ok : ∀ (v19 : BitVec 32) (v22 : BitVec 32) (k0_hw2 : k0_chk2 v19 v22), ∀ (k0_h2 : k0_cond2 v19 v22 = 1#1), (k0_t2_loop v19 v22).OK := fun v19 v22 k0_hw2 k0_h2 => k0_hw2.2.2.1 k0_h2
theorem k0_off3_inb : ∀ (v19 : BitVec 32) (v22 : BitVec 32) (k0_hw2 : k0_chk2 v19 v22) (k0_t2 : Fin (k0_t2_loop v19 v22).trips), ∀ (k0_h2 : k0_cond2 v19 v22 = 1#1), ∀ a, (k0_off3 v19 v22 k0_t2) a + S128x128.size a ≤ S10128x128.size a := fun v19 v22 k0_hw2 k0_t2 k0_h2 => k0_hw2.2.2.2 k0_t2 k0_h2

def k0_off4 (v76 : BitVec 32) : Fin 2 → Nat :=
  let c_m8_i32_27 : BitVec 32 := 4294967288#32
  let v77 : BitVec 32 := Scalar.andi v76 c_m8_i32_27
  let c0_i32_38 : BitVec 32 := 0#32
  let v102 : BitVec 32 := Scalar.addi v77 c0_i32_38
  let v111 : Index := Scalar.indexCast v102
  let c0_41 : Index := 0#32
  ![v111.toNat, 0]

def k0_chk3 (v76 : BitVec 32) : Prop :=
  (∀ a, (k0_off4 v76) a + S128x128.size a ≤ S10128x128.size a)
theorem k0_off4_inb : ∀ (v76 : BitVec 32) (k0_hw3 : k0_chk3 v76), ∀ a, (k0_off4 v76) a + S128x128.size a ≤ S10128x128.size a := fun v76 k0_hw3 => k0_hw3

@[reducible] def k0_t3_loop (v76 : BitVec 32) (v79 : BitVec 32) : Scf.Loop 32 :=
  let c1_i32_108 : BitVec 32 := 1#32
  let c_m8_i32_27 : BitVec 32 := 4294967288#32
  let v77 : BitVec 32 := Scalar.andi v76 c_m8_i32_27
  let v80 : BitVec 32 := Scalar.subi v79 v77
  let c1_i32_28 : BitVec 32 := 1#32
  let v81 : BitVec 32 := Scalar.addi v80 c1_i32_28
  let c128_i32_29 : BitVec 32 := 128#32
  let v82 : BitVec 32 := Scalar.addi v81 c128_i32_29
  let c1_i32_30 : BitVec 32 := 1#32
  let v83 : BitVec 32 := Scalar.subi v82 c1_i32_30
  let c0_i32_32 : BitVec 32 := 0#32
  let v85 : BitVec 1 := Scalar.cmpi .sgt v83 c0_i32_32
  let v86 : BitVec 32 := Scalar.extui v85
  let c0_i32_33 : BitVec 32 := 0#32
  let v87 : BitVec 1 := Scalar.cmpi .slt v83 c0_i32_33
  let v88 : BitVec 32 := Scalar.extui v87
  let v89 : BitVec 32 := Scalar.subi v86 v88
  let c128_i32_31 : BitVec 32 := 128#32
  let c0_i32_34 : BitVec 32 := 0#32
  let v90 : BitVec 1 := Scalar.cmpi .sgt c128_i32_31 c0_i32_34
  let v91 : BitVec 32 := Scalar.extui v90
  let c0_i32_35 : BitVec 32 := 0#32
  let v92 : BitVec 1 := Scalar.cmpi .slt c128_i32_31 c0_i32_35
  let v93 : BitVec 32 := Scalar.extui v92
  let v94 : BitVec 32 := Scalar.subi v91 v93
  let v95 : BitVec 1 := Scalar.cmpi .ne v89 v94
  let v96 : BitVec 32 := Scalar.remsi v83 c128_i32_31
  let c0_i32_36 : BitVec 32 := 0#32
  let v97 : BitVec 1 := Scalar.cmpi .ne v96 c0_i32_36
  let v98 : BitVec 1 := Scalar.andi v95 v97
  let v84 : BitVec 32 := Scalar.divsi v83 c128_i32_31
  let c1_i32_37 : BitVec 32 := 1#32
  let v99 : BitVec 32 := Scalar.subi v84 c1_i32_37
  let v100 : BitVec 32 := Scalar.select v98 v99 v84
  let v304 : BitVec 32 := Scalar.subi v100 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_110 : BitVec 32 := 1#32
  ⟨c1_i32_108, v308, c1_i32_110⟩
def k0_cond3 (v76 : BitVec 32) (v79 : BitVec 32) : BitVec 1 :=
  let c_m8_i32_27 : BitVec 32 := 4294967288#32
  let v77 : BitVec 32 := Scalar.andi v76 c_m8_i32_27
  let v80 : BitVec 32 := Scalar.subi v79 v77
  let c1_i32_28 : BitVec 32 := 1#32
  let v81 : BitVec 32 := Scalar.addi v80 c1_i32_28
  let c128_i32_29 : BitVec 32 := 128#32
  let v82 : BitVec 32 := Scalar.addi v81 c128_i32_29
  let c1_i32_30 : BitVec 32 := 1#32
  let v83 : BitVec 32 := Scalar.subi v82 c1_i32_30
  let c0_i32_32 : BitVec 32 := 0#32
  let v85 : BitVec 1 := Scalar.cmpi .sgt v83 c0_i32_32
  let v86 : BitVec 32 := Scalar.extui v85
  let c0_i32_33 : BitVec 32 := 0#32
  let v87 : BitVec 1 := Scalar.cmpi .slt v83 c0_i32_33
  let v88 : BitVec 32 := Scalar.extui v87
  let v89 : BitVec 32 := Scalar.subi v86 v88
  let c128_i32_31 : BitVec 32 := 128#32
  let c0_i32_34 : BitVec 32 := 0#32
  let v90 : BitVec 1 := Scalar.cmpi .sgt c128_i32_31 c0_i32_34
  let v91 : BitVec 32 := Scalar.extui v90
  let c0_i32_35 : BitVec 32 := 0#32
  let v92 : BitVec 1 := Scalar.cmpi .slt c128_i32_31 c0_i32_35
  let v93 : BitVec 32 := Scalar.extui v92
  let v94 : BitVec 32 := Scalar.subi v91 v93
  let v95 : BitVec 1 := Scalar.cmpi .ne v89 v94
  let v96 : BitVec 32 := Scalar.remsi v83 c128_i32_31
  let c0_i32_36 : BitVec 32 := 0#32
  let v97 : BitVec 1 := Scalar.cmpi .ne v96 c0_i32_36
  let v98 : BitVec 1 := Scalar.andi v95 v97
  let v84 : BitVec 32 := Scalar.divsi v83 c128_i32_31
  let c1_i32_37 : BitVec 32 := 1#32
  let v99 : BitVec 32 := Scalar.subi v84 c1_i32_37
  let v100 : BitVec 32 := Scalar.select v98 v99 v84
  let c1_i32_45 : BitVec 32 := 1#32
  let v127 : BitVec 1 := Scalar.cmpi .sgt v100 c1_i32_45
  let v128 : BitVec 32 := Scalar.extui v127
  let c0_i32_46 : BitVec 32 := 0#32
  let v129 : BitVec 1 := Scalar.cmpi .ne v128 c0_i32_46
  v129

def k0_off5 (v76 : BitVec 32) (v79 : BitVec 32) (k0_t3 : Fin (k0_t3_loop v76 v79).trips) : Fin 2 → Nat :=
  let c_m8_i32_27 : BitVec 32 := 4294967288#32
  let v77 : BitVec 32 := Scalar.andi v76 c_m8_i32_27
  let c1_i32_108 : BitVec 32 := 1#32
  let c1_i32_110 : BitVec 32 := 1#32
  let arg8 : BitVec 32 := Scf.iv c1_i32_108 c1_i32_110 k0_t3
  let c128_i32_112 : BitVec 32 := 128#32
  let v309 : BitVec 32 := Scalar.muli arg8 c128_i32_112
  let v310 : BitVec 32 := Scalar.addi v77 v309
  let v319 : Index := Scalar.indexCast v310
  let c0_115 : Index := 0#32
  ![v319.toNat, 0]
@[reducible] def k0_t4_loop (v76 : BitVec 32) (v79 : BitVec 32) : Scf.Loop 32 :=
  let c1_i32_108 : BitVec 32 := 1#32
  let c_m8_i32_27 : BitVec 32 := 4294967288#32
  let v77 : BitVec 32 := Scalar.andi v76 c_m8_i32_27
  let v80 : BitVec 32 := Scalar.subi v79 v77
  let c1_i32_28 : BitVec 32 := 1#32
  let v81 : BitVec 32 := Scalar.addi v80 c1_i32_28
  let c128_i32_29 : BitVec 32 := 128#32
  let v82 : BitVec 32 := Scalar.addi v81 c128_i32_29
  let c1_i32_30 : BitVec 32 := 1#32
  let v83 : BitVec 32 := Scalar.subi v82 c1_i32_30
  let c0_i32_32 : BitVec 32 := 0#32
  let v85 : BitVec 1 := Scalar.cmpi .sgt v83 c0_i32_32
  let v86 : BitVec 32 := Scalar.extui v85
  let c0_i32_33 : BitVec 32 := 0#32
  let v87 : BitVec 1 := Scalar.cmpi .slt v83 c0_i32_33
  let v88 : BitVec 32 := Scalar.extui v87
  let v89 : BitVec 32 := Scalar.subi v86 v88
  let c128_i32_31 : BitVec 32 := 128#32
  let c0_i32_34 : BitVec 32 := 0#32
  let v90 : BitVec 1 := Scalar.cmpi .sgt c128_i32_31 c0_i32_34
  let v91 : BitVec 32 := Scalar.extui v90
  let c0_i32_35 : BitVec 32 := 0#32
  let v92 : BitVec 1 := Scalar.cmpi .slt c128_i32_31 c0_i32_35
  let v93 : BitVec 32 := Scalar.extui v92
  let v94 : BitVec 32 := Scalar.subi v91 v93
  let v95 : BitVec 1 := Scalar.cmpi .ne v89 v94
  let v96 : BitVec 32 := Scalar.remsi v83 c128_i32_31
  let c0_i32_36 : BitVec 32 := 0#32
  let v97 : BitVec 1 := Scalar.cmpi .ne v96 c0_i32_36
  let v98 : BitVec 1 := Scalar.andi v95 v97
  let v84 : BitVec 32 := Scalar.divsi v83 c128_i32_31
  let c1_i32_37 : BitVec 32 := 1#32
  let v99 : BitVec 32 := Scalar.subi v84 c1_i32_37
  let v100 : BitVec 32 := Scalar.select v98 v99 v84
  let v304 : BitVec 32 := Scalar.subi v100 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let v305 : BitVec 32 := Scalar.addi c1_i32_108 v304
  let c1_i32_111 : BitVec 32 := 1#32
  ⟨v308, v305, c1_i32_111⟩
def k0_off6 (v76 : BitVec 32) (v79 : BitVec 32) (k0_t4 : Fin (k0_t4_loop v76 v79).trips) : Fin 2 → Nat :=
  let c_m8_i32_27 : BitVec 32 := 4294967288#32
  let v77 : BitVec 32 := Scalar.andi v76 c_m8_i32_27
  let c1_i32_108 : BitVec 32 := 1#32
  let v80 : BitVec 32 := Scalar.subi v79 v77
  let c1_i32_28 : BitVec 32 := 1#32
  let v81 : BitVec 32 := Scalar.addi v80 c1_i32_28
  let c128_i32_29 : BitVec 32 := 128#32
  let v82 : BitVec 32 := Scalar.addi v81 c128_i32_29
  let c1_i32_30 : BitVec 32 := 1#32
  let v83 : BitVec 32 := Scalar.subi v82 c1_i32_30
  let c0_i32_32 : BitVec 32 := 0#32
  let v85 : BitVec 1 := Scalar.cmpi .sgt v83 c0_i32_32
  let v86 : BitVec 32 := Scalar.extui v85
  let c0_i32_33 : BitVec 32 := 0#32
  let v87 : BitVec 1 := Scalar.cmpi .slt v83 c0_i32_33
  let v88 : BitVec 32 := Scalar.extui v87
  let v89 : BitVec 32 := Scalar.subi v86 v88
  let c128_i32_31 : BitVec 32 := 128#32
  let c0_i32_34 : BitVec 32 := 0#32
  let v90 : BitVec 1 := Scalar.cmpi .sgt c128_i32_31 c0_i32_34
  let v91 : BitVec 32 := Scalar.extui v90
  let c0_i32_35 : BitVec 32 := 0#32
  let v92 : BitVec 1 := Scalar.cmpi .slt c128_i32_31 c0_i32_35
  let v93 : BitVec 32 := Scalar.extui v92
  let v94 : BitVec 32 := Scalar.subi v91 v93
  let v95 : BitVec 1 := Scalar.cmpi .ne v89 v94
  let v96 : BitVec 32 := Scalar.remsi v83 c128_i32_31
  let c0_i32_36 : BitVec 32 := 0#32
  let v97 : BitVec 1 := Scalar.cmpi .ne v96 c0_i32_36
  let v98 : BitVec 1 := Scalar.andi v95 v97
  let v84 : BitVec 32 := Scalar.divsi v83 c128_i32_31
  let c1_i32_37 : BitVec 32 := 1#32
  let v99 : BitVec 32 := Scalar.subi v84 c1_i32_37
  let v100 : BitVec 32 := Scalar.select v98 v99 v84
  let v304 : BitVec 32 := Scalar.subi v100 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_111 : BitVec 32 := 1#32
  let arg8 : BitVec 32 := Scf.iv v308 c1_i32_111 k0_t4
  let c128_i32_112 : BitVec 32 := 128#32
  let v309 : BitVec 32 := Scalar.muli arg8 c128_i32_112
  let v310 : BitVec 32 := Scalar.addi v77 v309
  let v319 : Index := Scalar.indexCast v310
  let c0_115 : Index := 0#32
  ![v319.toNat, 0]

def k0_chk4 (v76 : BitVec 32) (v79 : BitVec 32) : Prop :=
  (∀ (k0_h3 : k0_cond3 v76 v79 = 1#1), (k0_t3_loop v76 v79).OK) ∧
  (∀ k0_t3 : Fin (k0_t3_loop v76 v79).trips, ∀ (k0_h3 : k0_cond3 v76 v79 = 1#1), ∀ a, (k0_off5 v76 v79 k0_t3) a + S128x128.size a ≤ S10128x128.size a) ∧
  (∀ (k0_h3 : k0_cond3 v76 v79 = 1#1), (k0_t4_loop v76 v79).OK) ∧
  (∀ k0_t4 : Fin (k0_t4_loop v76 v79).trips, ∀ (k0_h3 : k0_cond3 v76 v79 = 1#1), ∀ a, (k0_off6 v76 v79 k0_t4) a + S128x128.size a ≤ S10128x128.size a)
theorem k0_t3_ok : ∀ (v76 : BitVec 32) (v79 : BitVec 32) (k0_hw4 : k0_chk4 v76 v79), ∀ (k0_h3 : k0_cond3 v76 v79 = 1#1), (k0_t3_loop v76 v79).OK := fun v76 v79 k0_hw4 k0_h3 => k0_hw4.1 k0_h3
theorem k0_off5_inb : ∀ (v76 : BitVec 32) (v79 : BitVec 32) (k0_hw4 : k0_chk4 v76 v79) (k0_t3 : Fin (k0_t3_loop v76 v79).trips), ∀ (k0_h3 : k0_cond3 v76 v79 = 1#1), ∀ a, (k0_off5 v76 v79 k0_t3) a + S128x128.size a ≤ S10128x128.size a := fun v76 v79 k0_hw4 k0_t3 k0_h3 => k0_hw4.2.1 k0_t3 k0_h3
theorem k0_t4_ok : ∀ (v76 : BitVec 32) (v79 : BitVec 32) (k0_hw4 : k0_chk4 v76 v79), ∀ (k0_h3 : k0_cond3 v76 v79 = 1#1), (k0_t4_loop v76 v79).OK := fun v76 v79 k0_hw4 k0_h3 => k0_hw4.2.2.1 k0_h3
theorem k0_off6_inb : ∀ (v76 : BitVec 32) (v79 : BitVec 32) (k0_hw4 : k0_chk4 v76 v79) (k0_t4 : Fin (k0_t4_loop v76 v79).trips), ∀ (k0_h3 : k0_cond3 v76 v79 = 1#1), ∀ a, (k0_off6 v76 v79 k0_t4) a + S128x128.size a ≤ S10128x128.size a := fun v76 v79 k0_hw4 k0_t4 k0_h3 => k0_hw4.2.2.2 k0_t4 k0_h3

def k0_off7 (v133 : BitVec 32) : Fin 2 → Nat :=
  let c_m8_i32_47 : BitVec 32 := 4294967288#32
  let v134 : BitVec 32 := Scalar.andi v133 c_m8_i32_47
  let c0_i32_58 : BitVec 32 := 0#32
  let v159 : BitVec 32 := Scalar.addi v134 c0_i32_58
  let v168 : Index := Scalar.indexCast v159
  let c0_61 : Index := 0#32
  ![v168.toNat, 0]

def k0_chk5 (v133 : BitVec 32) : Prop :=
  (∀ a, (k0_off7 v133) a + S128x128.size a ≤ S10128x128.size a)
theorem k0_off7_inb : ∀ (v133 : BitVec 32) (k0_hw5 : k0_chk5 v133), ∀ a, (k0_off7 v133) a + S128x128.size a ≤ S10128x128.size a := fun v133 k0_hw5 => k0_hw5

@[reducible] def k0_t5_loop (v133 : BitVec 32) (v136 : BitVec 32) : Scf.Loop 32 :=
  let c1_i32_108 : BitVec 32 := 1#32
  let c_m8_i32_47 : BitVec 32 := 4294967288#32
  let v134 : BitVec 32 := Scalar.andi v133 c_m8_i32_47
  let v137 : BitVec 32 := Scalar.subi v136 v134
  let c1_i32_48 : BitVec 32 := 1#32
  let v138 : BitVec 32 := Scalar.addi v137 c1_i32_48
  let c128_i32_49 : BitVec 32 := 128#32
  let v139 : BitVec 32 := Scalar.addi v138 c128_i32_49
  let c1_i32_50 : BitVec 32 := 1#32
  let v140 : BitVec 32 := Scalar.subi v139 c1_i32_50
  let c0_i32_52 : BitVec 32 := 0#32
  let v142 : BitVec 1 := Scalar.cmpi .sgt v140 c0_i32_52
  let v143 : BitVec 32 := Scalar.extui v142
  let c0_i32_53 : BitVec 32 := 0#32
  let v144 : BitVec 1 := Scalar.cmpi .slt v140 c0_i32_53
  let v145 : BitVec 32 := Scalar.extui v144
  let v146 : BitVec 32 := Scalar.subi v143 v145
  let c128_i32_51 : BitVec 32 := 128#32
  let c0_i32_54 : BitVec 32 := 0#32
  let v147 : BitVec 1 := Scalar.cmpi .sgt c128_i32_51 c0_i32_54
  let v148 : BitVec 32 := Scalar.extui v147
  let c0_i32_55 : BitVec 32 := 0#32
  let v149 : BitVec 1 := Scalar.cmpi .slt c128_i32_51 c0_i32_55
  let v150 : BitVec 32 := Scalar.extui v149
  let v151 : BitVec 32 := Scalar.subi v148 v150
  let v152 : BitVec 1 := Scalar.cmpi .ne v146 v151
  let v153 : BitVec 32 := Scalar.remsi v140 c128_i32_51
  let c0_i32_56 : BitVec 32 := 0#32
  let v154 : BitVec 1 := Scalar.cmpi .ne v153 c0_i32_56
  let v155 : BitVec 1 := Scalar.andi v152 v154
  let v141 : BitVec 32 := Scalar.divsi v140 c128_i32_51
  let c1_i32_57 : BitVec 32 := 1#32
  let v156 : BitVec 32 := Scalar.subi v141 c1_i32_57
  let v157 : BitVec 32 := Scalar.select v155 v156 v141
  let v304 : BitVec 32 := Scalar.subi v157 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_110 : BitVec 32 := 1#32
  ⟨c1_i32_108, v308, c1_i32_110⟩
def k0_cond4 (v133 : BitVec 32) (v136 : BitVec 32) : BitVec 1 :=
  let c_m8_i32_47 : BitVec 32 := 4294967288#32
  let v134 : BitVec 32 := Scalar.andi v133 c_m8_i32_47
  let v137 : BitVec 32 := Scalar.subi v136 v134
  let c1_i32_48 : BitVec 32 := 1#32
  let v138 : BitVec 32 := Scalar.addi v137 c1_i32_48
  let c128_i32_49 : BitVec 32 := 128#32
  let v139 : BitVec 32 := Scalar.addi v138 c128_i32_49
  let c1_i32_50 : BitVec 32 := 1#32
  let v140 : BitVec 32 := Scalar.subi v139 c1_i32_50
  let c0_i32_52 : BitVec 32 := 0#32
  let v142 : BitVec 1 := Scalar.cmpi .sgt v140 c0_i32_52
  let v143 : BitVec 32 := Scalar.extui v142
  let c0_i32_53 : BitVec 32 := 0#32
  let v144 : BitVec 1 := Scalar.cmpi .slt v140 c0_i32_53
  let v145 : BitVec 32 := Scalar.extui v144
  let v146 : BitVec 32 := Scalar.subi v143 v145
  let c128_i32_51 : BitVec 32 := 128#32
  let c0_i32_54 : BitVec 32 := 0#32
  let v147 : BitVec 1 := Scalar.cmpi .sgt c128_i32_51 c0_i32_54
  let v148 : BitVec 32 := Scalar.extui v147
  let c0_i32_55 : BitVec 32 := 0#32
  let v149 : BitVec 1 := Scalar.cmpi .slt c128_i32_51 c0_i32_55
  let v150 : BitVec 32 := Scalar.extui v149
  let v151 : BitVec 32 := Scalar.subi v148 v150
  let v152 : BitVec 1 := Scalar.cmpi .ne v146 v151
  let v153 : BitVec 32 := Scalar.remsi v140 c128_i32_51
  let c0_i32_56 : BitVec 32 := 0#32
  let v154 : BitVec 1 := Scalar.cmpi .ne v153 c0_i32_56
  let v155 : BitVec 1 := Scalar.andi v152 v154
  let v141 : BitVec 32 := Scalar.divsi v140 c128_i32_51
  let c1_i32_57 : BitVec 32 := 1#32
  let v156 : BitVec 32 := Scalar.subi v141 c1_i32_57
  let v157 : BitVec 32 := Scalar.select v155 v156 v141
  let c1_i32_65 : BitVec 32 := 1#32
  let v184 : BitVec 1 := Scalar.cmpi .sgt v157 c1_i32_65
  let v185 : BitVec 32 := Scalar.extui v184
  let c0_i32_66 : BitVec 32 := 0#32
  let v186 : BitVec 1 := Scalar.cmpi .ne v185 c0_i32_66
  v186

def k0_off8 (v133 : BitVec 32) (v136 : BitVec 32) (k0_t5 : Fin (k0_t5_loop v133 v136).trips) : Fin 2 → Nat :=
  let c_m8_i32_47 : BitVec 32 := 4294967288#32
  let v134 : BitVec 32 := Scalar.andi v133 c_m8_i32_47
  let c1_i32_108 : BitVec 32 := 1#32
  let c1_i32_110 : BitVec 32 := 1#32
  let arg8 : BitVec 32 := Scf.iv c1_i32_108 c1_i32_110 k0_t5
  let c128_i32_112 : BitVec 32 := 128#32
  let v309 : BitVec 32 := Scalar.muli arg8 c128_i32_112
  let v310 : BitVec 32 := Scalar.addi v134 v309
  let v319 : Index := Scalar.indexCast v310
  let c0_115 : Index := 0#32
  ![v319.toNat, 0]
@[reducible] def k0_t6_loop (v133 : BitVec 32) (v136 : BitVec 32) : Scf.Loop 32 :=
  let c1_i32_108 : BitVec 32 := 1#32
  let c_m8_i32_47 : BitVec 32 := 4294967288#32
  let v134 : BitVec 32 := Scalar.andi v133 c_m8_i32_47
  let v137 : BitVec 32 := Scalar.subi v136 v134
  let c1_i32_48 : BitVec 32 := 1#32
  let v138 : BitVec 32 := Scalar.addi v137 c1_i32_48
  let c128_i32_49 : BitVec 32 := 128#32
  let v139 : BitVec 32 := Scalar.addi v138 c128_i32_49
  let c1_i32_50 : BitVec 32 := 1#32
  let v140 : BitVec 32 := Scalar.subi v139 c1_i32_50
  let c0_i32_52 : BitVec 32 := 0#32
  let v142 : BitVec 1 := Scalar.cmpi .sgt v140 c0_i32_52
  let v143 : BitVec 32 := Scalar.extui v142
  let c0_i32_53 : BitVec 32 := 0#32
  let v144 : BitVec 1 := Scalar.cmpi .slt v140 c0_i32_53
  let v145 : BitVec 32 := Scalar.extui v144
  let v146 : BitVec 32 := Scalar.subi v143 v145
  let c128_i32_51 : BitVec 32 := 128#32
  let c0_i32_54 : BitVec 32 := 0#32
  let v147 : BitVec 1 := Scalar.cmpi .sgt c128_i32_51 c0_i32_54
  let v148 : BitVec 32 := Scalar.extui v147
  let c0_i32_55 : BitVec 32 := 0#32
  let v149 : BitVec 1 := Scalar.cmpi .slt c128_i32_51 c0_i32_55
  let v150 : BitVec 32 := Scalar.extui v149
  let v151 : BitVec 32 := Scalar.subi v148 v150
  let v152 : BitVec 1 := Scalar.cmpi .ne v146 v151
  let v153 : BitVec 32 := Scalar.remsi v140 c128_i32_51
  let c0_i32_56 : BitVec 32 := 0#32
  let v154 : BitVec 1 := Scalar.cmpi .ne v153 c0_i32_56
  let v155 : BitVec 1 := Scalar.andi v152 v154
  let v141 : BitVec 32 := Scalar.divsi v140 c128_i32_51
  let c1_i32_57 : BitVec 32 := 1#32
  let v156 : BitVec 32 := Scalar.subi v141 c1_i32_57
  let v157 : BitVec 32 := Scalar.select v155 v156 v141
  let v304 : BitVec 32 := Scalar.subi v157 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let v305 : BitVec 32 := Scalar.addi c1_i32_108 v304
  let c1_i32_111 : BitVec 32 := 1#32
  ⟨v308, v305, c1_i32_111⟩
def k0_off9 (v133 : BitVec 32) (v136 : BitVec 32) (k0_t6 : Fin (k0_t6_loop v133 v136).trips) : Fin 2 → Nat :=
  let c_m8_i32_47 : BitVec 32 := 4294967288#32
  let v134 : BitVec 32 := Scalar.andi v133 c_m8_i32_47
  let c1_i32_108 : BitVec 32 := 1#32
  let v137 : BitVec 32 := Scalar.subi v136 v134
  let c1_i32_48 : BitVec 32 := 1#32
  let v138 : BitVec 32 := Scalar.addi v137 c1_i32_48
  let c128_i32_49 : BitVec 32 := 128#32
  let v139 : BitVec 32 := Scalar.addi v138 c128_i32_49
  let c1_i32_50 : BitVec 32 := 1#32
  let v140 : BitVec 32 := Scalar.subi v139 c1_i32_50
  let c0_i32_52 : BitVec 32 := 0#32
  let v142 : BitVec 1 := Scalar.cmpi .sgt v140 c0_i32_52
  let v143 : BitVec 32 := Scalar.extui v142
  let c0_i32_53 : BitVec 32 := 0#32
  let v144 : BitVec 1 := Scalar.cmpi .slt v140 c0_i32_53
  let v145 : BitVec 32 := Scalar.extui v144
  let v146 : BitVec 32 := Scalar.subi v143 v145
  let c128_i32_51 : BitVec 32 := 128#32
  let c0_i32_54 : BitVec 32 := 0#32
  let v147 : BitVec 1 := Scalar.cmpi .sgt c128_i32_51 c0_i32_54
  let v148 : BitVec 32 := Scalar.extui v147
  let c0_i32_55 : BitVec 32 := 0#32
  let v149 : BitVec 1 := Scalar.cmpi .slt c128_i32_51 c0_i32_55
  let v150 : BitVec 32 := Scalar.extui v149
  let v151 : BitVec 32 := Scalar.subi v148 v150
  let v152 : BitVec 1 := Scalar.cmpi .ne v146 v151
  let v153 : BitVec 32 := Scalar.remsi v140 c128_i32_51
  let c0_i32_56 : BitVec 32 := 0#32
  let v154 : BitVec 1 := Scalar.cmpi .ne v153 c0_i32_56
  let v155 : BitVec 1 := Scalar.andi v152 v154
  let v141 : BitVec 32 := Scalar.divsi v140 c128_i32_51
  let c1_i32_57 : BitVec 32 := 1#32
  let v156 : BitVec 32 := Scalar.subi v141 c1_i32_57
  let v157 : BitVec 32 := Scalar.select v155 v156 v141
  let v304 : BitVec 32 := Scalar.subi v157 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_111 : BitVec 32 := 1#32
  let arg8 : BitVec 32 := Scf.iv v308 c1_i32_111 k0_t6
  let c128_i32_112 : BitVec 32 := 128#32
  let v309 : BitVec 32 := Scalar.muli arg8 c128_i32_112
  let v310 : BitVec 32 := Scalar.addi v134 v309
  let v319 : Index := Scalar.indexCast v310
  let c0_115 : Index := 0#32
  ![v319.toNat, 0]

def k0_chk6 (v133 : BitVec 32) (v136 : BitVec 32) : Prop :=
  (∀ (k0_h4 : k0_cond4 v133 v136 = 1#1), (k0_t5_loop v133 v136).OK) ∧
  (∀ k0_t5 : Fin (k0_t5_loop v133 v136).trips, ∀ (k0_h4 : k0_cond4 v133 v136 = 1#1), ∀ a, (k0_off8 v133 v136 k0_t5) a + S128x128.size a ≤ S10128x128.size a) ∧
  (∀ (k0_h4 : k0_cond4 v133 v136 = 1#1), (k0_t6_loop v133 v136).OK) ∧
  (∀ k0_t6 : Fin (k0_t6_loop v133 v136).trips, ∀ (k0_h4 : k0_cond4 v133 v136 = 1#1), ∀ a, (k0_off9 v133 v136 k0_t6) a + S128x128.size a ≤ S10128x128.size a)
theorem k0_t5_ok : ∀ (v133 : BitVec 32) (v136 : BitVec 32) (k0_hw6 : k0_chk6 v133 v136), ∀ (k0_h4 : k0_cond4 v133 v136 = 1#1), (k0_t5_loop v133 v136).OK := fun v133 v136 k0_hw6 k0_h4 => k0_hw6.1 k0_h4
theorem k0_off8_inb : ∀ (v133 : BitVec 32) (v136 : BitVec 32) (k0_hw6 : k0_chk6 v133 v136) (k0_t5 : Fin (k0_t5_loop v133 v136).trips), ∀ (k0_h4 : k0_cond4 v133 v136 = 1#1), ∀ a, (k0_off8 v133 v136 k0_t5) a + S128x128.size a ≤ S10128x128.size a := fun v133 v136 k0_hw6 k0_t5 k0_h4 => k0_hw6.2.1 k0_t5 k0_h4
theorem k0_t6_ok : ∀ (v133 : BitVec 32) (v136 : BitVec 32) (k0_hw6 : k0_chk6 v133 v136), ∀ (k0_h4 : k0_cond4 v133 v136 = 1#1), (k0_t6_loop v133 v136).OK := fun v133 v136 k0_hw6 k0_h4 => k0_hw6.2.2.1 k0_h4
theorem k0_off9_inb : ∀ (v133 : BitVec 32) (v136 : BitVec 32) (k0_hw6 : k0_chk6 v133 v136) (k0_t6 : Fin (k0_t6_loop v133 v136).trips), ∀ (k0_h4 : k0_cond4 v133 v136 = 1#1), ∀ a, (k0_off9 v133 v136 k0_t6) a + S128x128.size a ≤ S10128x128.size a := fun v133 v136 k0_hw6 k0_t6 k0_h4 => k0_hw6.2.2.2 k0_t6 k0_h4

def k0_off10 (v190 : BitVec 32) : Fin 2 → Nat :=
  let c_m8_i32_67 : BitVec 32 := 4294967288#32
  let v191 : BitVec 32 := Scalar.andi v190 c_m8_i32_67
  let c0_i32_78 : BitVec 32 := 0#32
  let v216 : BitVec 32 := Scalar.addi v191 c0_i32_78
  let v225 : Index := Scalar.indexCast v216
  let c0_81 : Index := 0#32
  ![v225.toNat, 0]

def k0_chk7 (v190 : BitVec 32) : Prop :=
  (∀ a, (k0_off10 v190) a + S128x128.size a ≤ S10128x128.size a)
theorem k0_off10_inb : ∀ (v190 : BitVec 32) (k0_hw7 : k0_chk7 v190), ∀ a, (k0_off10 v190) a + S128x128.size a ≤ S10128x128.size a := fun v190 k0_hw7 => k0_hw7

@[reducible] def k0_t7_loop (v190 : BitVec 32) (v193 : BitVec 32) : Scf.Loop 32 :=
  let c1_i32_108 : BitVec 32 := 1#32
  let c_m8_i32_67 : BitVec 32 := 4294967288#32
  let v191 : BitVec 32 := Scalar.andi v190 c_m8_i32_67
  let v194 : BitVec 32 := Scalar.subi v193 v191
  let c1_i32_68 : BitVec 32 := 1#32
  let v195 : BitVec 32 := Scalar.addi v194 c1_i32_68
  let c128_i32_69 : BitVec 32 := 128#32
  let v196 : BitVec 32 := Scalar.addi v195 c128_i32_69
  let c1_i32_70 : BitVec 32 := 1#32
  let v197 : BitVec 32 := Scalar.subi v196 c1_i32_70
  let c0_i32_72 : BitVec 32 := 0#32
  let v199 : BitVec 1 := Scalar.cmpi .sgt v197 c0_i32_72
  let v200 : BitVec 32 := Scalar.extui v199
  let c0_i32_73 : BitVec 32 := 0#32
  let v201 : BitVec 1 := Scalar.cmpi .slt v197 c0_i32_73
  let v202 : BitVec 32 := Scalar.extui v201
  let v203 : BitVec 32 := Scalar.subi v200 v202
  let c128_i32_71 : BitVec 32 := 128#32
  let c0_i32_74 : BitVec 32 := 0#32
  let v204 : BitVec 1 := Scalar.cmpi .sgt c128_i32_71 c0_i32_74
  let v205 : BitVec 32 := Scalar.extui v204
  let c0_i32_75 : BitVec 32 := 0#32
  let v206 : BitVec 1 := Scalar.cmpi .slt c128_i32_71 c0_i32_75
  let v207 : BitVec 32 := Scalar.extui v206
  let v208 : BitVec 32 := Scalar.subi v205 v207
  let v209 : BitVec 1 := Scalar.cmpi .ne v203 v208
  let v210 : BitVec 32 := Scalar.remsi v197 c128_i32_71
  let c0_i32_76 : BitVec 32 := 0#32
  let v211 : BitVec 1 := Scalar.cmpi .ne v210 c0_i32_76
  let v212 : BitVec 1 := Scalar.andi v209 v211
  let v198 : BitVec 32 := Scalar.divsi v197 c128_i32_71
  let c1_i32_77 : BitVec 32 := 1#32
  let v213 : BitVec 32 := Scalar.subi v198 c1_i32_77
  let v214 : BitVec 32 := Scalar.select v212 v213 v198
  let v304 : BitVec 32 := Scalar.subi v214 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_110 : BitVec 32 := 1#32
  ⟨c1_i32_108, v308, c1_i32_110⟩
def k0_cond5 (v190 : BitVec 32) (v193 : BitVec 32) : BitVec 1 :=
  let c_m8_i32_67 : BitVec 32 := 4294967288#32
  let v191 : BitVec 32 := Scalar.andi v190 c_m8_i32_67
  let v194 : BitVec 32 := Scalar.subi v193 v191
  let c1_i32_68 : BitVec 32 := 1#32
  let v195 : BitVec 32 := Scalar.addi v194 c1_i32_68
  let c128_i32_69 : BitVec 32 := 128#32
  let v196 : BitVec 32 := Scalar.addi v195 c128_i32_69
  let c1_i32_70 : BitVec 32 := 1#32
  let v197 : BitVec 32 := Scalar.subi v196 c1_i32_70
  let c0_i32_72 : BitVec 32 := 0#32
  let v199 : BitVec 1 := Scalar.cmpi .sgt v197 c0_i32_72
  let v200 : BitVec 32 := Scalar.extui v199
  let c0_i32_73 : BitVec 32 := 0#32
  let v201 : BitVec 1 := Scalar.cmpi .slt v197 c0_i32_73
  let v202 : BitVec 32 := Scalar.extui v201
  let v203 : BitVec 32 := Scalar.subi v200 v202
  let c128_i32_71 : BitVec 32 := 128#32
  let c0_i32_74 : BitVec 32 := 0#32
  let v204 : BitVec 1 := Scalar.cmpi .sgt c128_i32_71 c0_i32_74
  let v205 : BitVec 32 := Scalar.extui v204
  let c0_i32_75 : BitVec 32 := 0#32
  let v206 : BitVec 1 := Scalar.cmpi .slt c128_i32_71 c0_i32_75
  let v207 : BitVec 32 := Scalar.extui v206
  let v208 : BitVec 32 := Scalar.subi v205 v207
  let v209 : BitVec 1 := Scalar.cmpi .ne v203 v208
  let v210 : BitVec 32 := Scalar.remsi v197 c128_i32_71
  let c0_i32_76 : BitVec 32 := 0#32
  let v211 : BitVec 1 := Scalar.cmpi .ne v210 c0_i32_76
  let v212 : BitVec 1 := Scalar.andi v209 v211
  let v198 : BitVec 32 := Scalar.divsi v197 c128_i32_71
  let c1_i32_77 : BitVec 32 := 1#32
  let v213 : BitVec 32 := Scalar.subi v198 c1_i32_77
  let v214 : BitVec 32 := Scalar.select v212 v213 v198
  let c1_i32_85 : BitVec 32 := 1#32
  let v241 : BitVec 1 := Scalar.cmpi .sgt v214 c1_i32_85
  let v242 : BitVec 32 := Scalar.extui v241
  let c0_i32_86 : BitVec 32 := 0#32
  let v243 : BitVec 1 := Scalar.cmpi .ne v242 c0_i32_86
  v243

def k0_off11 (v190 : BitVec 32) (v193 : BitVec 32) (k0_t7 : Fin (k0_t7_loop v190 v193).trips) : Fin 2 → Nat :=
  let c_m8_i32_67 : BitVec 32 := 4294967288#32
  let v191 : BitVec 32 := Scalar.andi v190 c_m8_i32_67
  let c1_i32_108 : BitVec 32 := 1#32
  let c1_i32_110 : BitVec 32 := 1#32
  let arg8 : BitVec 32 := Scf.iv c1_i32_108 c1_i32_110 k0_t7
  let c128_i32_112 : BitVec 32 := 128#32
  let v309 : BitVec 32 := Scalar.muli arg8 c128_i32_112
  let v310 : BitVec 32 := Scalar.addi v191 v309
  let v319 : Index := Scalar.indexCast v310
  let c0_115 : Index := 0#32
  ![v319.toNat, 0]
@[reducible] def k0_t8_loop (v190 : BitVec 32) (v193 : BitVec 32) : Scf.Loop 32 :=
  let c1_i32_108 : BitVec 32 := 1#32
  let c_m8_i32_67 : BitVec 32 := 4294967288#32
  let v191 : BitVec 32 := Scalar.andi v190 c_m8_i32_67
  let v194 : BitVec 32 := Scalar.subi v193 v191
  let c1_i32_68 : BitVec 32 := 1#32
  let v195 : BitVec 32 := Scalar.addi v194 c1_i32_68
  let c128_i32_69 : BitVec 32 := 128#32
  let v196 : BitVec 32 := Scalar.addi v195 c128_i32_69
  let c1_i32_70 : BitVec 32 := 1#32
  let v197 : BitVec 32 := Scalar.subi v196 c1_i32_70
  let c0_i32_72 : BitVec 32 := 0#32
  let v199 : BitVec 1 := Scalar.cmpi .sgt v197 c0_i32_72
  let v200 : BitVec 32 := Scalar.extui v199
  let c0_i32_73 : BitVec 32 := 0#32
  let v201 : BitVec 1 := Scalar.cmpi .slt v197 c0_i32_73
  let v202 : BitVec 32 := Scalar.extui v201
  let v203 : BitVec 32 := Scalar.subi v200 v202
  let c128_i32_71 : BitVec 32 := 128#32
  let c0_i32_74 : BitVec 32 := 0#32
  let v204 : BitVec 1 := Scalar.cmpi .sgt c128_i32_71 c0_i32_74
  let v205 : BitVec 32 := Scalar.extui v204
  let c0_i32_75 : BitVec 32 := 0#32
  let v206 : BitVec 1 := Scalar.cmpi .slt c128_i32_71 c0_i32_75
  let v207 : BitVec 32 := Scalar.extui v206
  let v208 : BitVec 32 := Scalar.subi v205 v207
  let v209 : BitVec 1 := Scalar.cmpi .ne v203 v208
  let v210 : BitVec 32 := Scalar.remsi v197 c128_i32_71
  let c0_i32_76 : BitVec 32 := 0#32
  let v211 : BitVec 1 := Scalar.cmpi .ne v210 c0_i32_76
  let v212 : BitVec 1 := Scalar.andi v209 v211
  let v198 : BitVec 32 := Scalar.divsi v197 c128_i32_71
  let c1_i32_77 : BitVec 32 := 1#32
  let v213 : BitVec 32 := Scalar.subi v198 c1_i32_77
  let v214 : BitVec 32 := Scalar.select v212 v213 v198
  let v304 : BitVec 32 := Scalar.subi v214 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let v305 : BitVec 32 := Scalar.addi c1_i32_108 v304
  let c1_i32_111 : BitVec 32 := 1#32
  ⟨v308, v305, c1_i32_111⟩
def k0_off12 (v190 : BitVec 32) (v193 : BitVec 32) (k0_t8 : Fin (k0_t8_loop v190 v193).trips) : Fin 2 → Nat :=
  let c_m8_i32_67 : BitVec 32 := 4294967288#32
  let v191 : BitVec 32 := Scalar.andi v190 c_m8_i32_67
  let c1_i32_108 : BitVec 32 := 1#32
  let v194 : BitVec 32 := Scalar.subi v193 v191
  let c1_i32_68 : BitVec 32 := 1#32
  let v195 : BitVec 32 := Scalar.addi v194 c1_i32_68
  let c128_i32_69 : BitVec 32 := 128#32
  let v196 : BitVec 32 := Scalar.addi v195 c128_i32_69
  let c1_i32_70 : BitVec 32 := 1#32
  let v197 : BitVec 32 := Scalar.subi v196 c1_i32_70
  let c0_i32_72 : BitVec 32 := 0#32
  let v199 : BitVec 1 := Scalar.cmpi .sgt v197 c0_i32_72
  let v200 : BitVec 32 := Scalar.extui v199
  let c0_i32_73 : BitVec 32 := 0#32
  let v201 : BitVec 1 := Scalar.cmpi .slt v197 c0_i32_73
  let v202 : BitVec 32 := Scalar.extui v201
  let v203 : BitVec 32 := Scalar.subi v200 v202
  let c128_i32_71 : BitVec 32 := 128#32
  let c0_i32_74 : BitVec 32 := 0#32
  let v204 : BitVec 1 := Scalar.cmpi .sgt c128_i32_71 c0_i32_74
  let v205 : BitVec 32 := Scalar.extui v204
  let c0_i32_75 : BitVec 32 := 0#32
  let v206 : BitVec 1 := Scalar.cmpi .slt c128_i32_71 c0_i32_75
  let v207 : BitVec 32 := Scalar.extui v206
  let v208 : BitVec 32 := Scalar.subi v205 v207
  let v209 : BitVec 1 := Scalar.cmpi .ne v203 v208
  let v210 : BitVec 32 := Scalar.remsi v197 c128_i32_71
  let c0_i32_76 : BitVec 32 := 0#32
  let v211 : BitVec 1 := Scalar.cmpi .ne v210 c0_i32_76
  let v212 : BitVec 1 := Scalar.andi v209 v211
  let v198 : BitVec 32 := Scalar.divsi v197 c128_i32_71
  let c1_i32_77 : BitVec 32 := 1#32
  let v213 : BitVec 32 := Scalar.subi v198 c1_i32_77
  let v214 : BitVec 32 := Scalar.select v212 v213 v198
  let v304 : BitVec 32 := Scalar.subi v214 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_111 : BitVec 32 := 1#32
  let arg8 : BitVec 32 := Scf.iv v308 c1_i32_111 k0_t8
  let c128_i32_112 : BitVec 32 := 128#32
  let v309 : BitVec 32 := Scalar.muli arg8 c128_i32_112
  let v310 : BitVec 32 := Scalar.addi v191 v309
  let v319 : Index := Scalar.indexCast v310
  let c0_115 : Index := 0#32
  ![v319.toNat, 0]

def k0_chk8 (v190 : BitVec 32) (v193 : BitVec 32) : Prop :=
  (∀ (k0_h5 : k0_cond5 v190 v193 = 1#1), (k0_t7_loop v190 v193).OK) ∧
  (∀ k0_t7 : Fin (k0_t7_loop v190 v193).trips, ∀ (k0_h5 : k0_cond5 v190 v193 = 1#1), ∀ a, (k0_off11 v190 v193 k0_t7) a + S128x128.size a ≤ S10128x128.size a) ∧
  (∀ (k0_h5 : k0_cond5 v190 v193 = 1#1), (k0_t8_loop v190 v193).OK) ∧
  (∀ k0_t8 : Fin (k0_t8_loop v190 v193).trips, ∀ (k0_h5 : k0_cond5 v190 v193 = 1#1), ∀ a, (k0_off12 v190 v193 k0_t8) a + S128x128.size a ≤ S10128x128.size a)
theorem k0_t7_ok : ∀ (v190 : BitVec 32) (v193 : BitVec 32) (k0_hw8 : k0_chk8 v190 v193), ∀ (k0_h5 : k0_cond5 v190 v193 = 1#1), (k0_t7_loop v190 v193).OK := fun v190 v193 k0_hw8 k0_h5 => k0_hw8.1 k0_h5
theorem k0_off11_inb : ∀ (v190 : BitVec 32) (v193 : BitVec 32) (k0_hw8 : k0_chk8 v190 v193) (k0_t7 : Fin (k0_t7_loop v190 v193).trips), ∀ (k0_h5 : k0_cond5 v190 v193 = 1#1), ∀ a, (k0_off11 v190 v193 k0_t7) a + S128x128.size a ≤ S10128x128.size a := fun v190 v193 k0_hw8 k0_t7 k0_h5 => k0_hw8.2.1 k0_t7 k0_h5
theorem k0_t8_ok : ∀ (v190 : BitVec 32) (v193 : BitVec 32) (k0_hw8 : k0_chk8 v190 v193), ∀ (k0_h5 : k0_cond5 v190 v193 = 1#1), (k0_t8_loop v190 v193).OK := fun v190 v193 k0_hw8 k0_h5 => k0_hw8.2.2.1 k0_h5
theorem k0_off12_inb : ∀ (v190 : BitVec 32) (v193 : BitVec 32) (k0_hw8 : k0_chk8 v190 v193) (k0_t8 : Fin (k0_t8_loop v190 v193).trips), ∀ (k0_h5 : k0_cond5 v190 v193 = 1#1), ∀ a, (k0_off12 v190 v193 k0_t8) a + S128x128.size a ≤ S10128x128.size a := fun v190 v193 k0_hw8 k0_t8 k0_h5 => k0_hw8.2.2.2 k0_t8 k0_h5

def k0_off13 (v247 : BitVec 32) : Fin 2 → Nat :=
  let c_m8_i32_87 : BitVec 32 := 4294967288#32
  let v248 : BitVec 32 := Scalar.andi v247 c_m8_i32_87
  let c0_i32_98 : BitVec 32 := 0#32
  let v273 : BitVec 32 := Scalar.addi v248 c0_i32_98
  let v282 : Index := Scalar.indexCast v273
  let c0_101 : Index := 0#32
  ![v282.toNat, 0]

def k0_chk9 (v247 : BitVec 32) : Prop :=
  (∀ a, (k0_off13 v247) a + S128x128.size a ≤ S10128x128.size a)
theorem k0_off13_inb : ∀ (v247 : BitVec 32) (k0_hw9 : k0_chk9 v247), ∀ a, (k0_off13 v247) a + S128x128.size a ≤ S10128x128.size a := fun v247 k0_hw9 => k0_hw9

@[reducible] def k0_t9_loop (v247 : BitVec 32) (v250 : BitVec 32) : Scf.Loop 32 :=
  let c1_i32_108 : BitVec 32 := 1#32
  let c_m8_i32_87 : BitVec 32 := 4294967288#32
  let v248 : BitVec 32 := Scalar.andi v247 c_m8_i32_87
  let v251 : BitVec 32 := Scalar.subi v250 v248
  let c1_i32_88 : BitVec 32 := 1#32
  let v252 : BitVec 32 := Scalar.addi v251 c1_i32_88
  let c128_i32_89 : BitVec 32 := 128#32
  let v253 : BitVec 32 := Scalar.addi v252 c128_i32_89
  let c1_i32_90 : BitVec 32 := 1#32
  let v254 : BitVec 32 := Scalar.subi v253 c1_i32_90
  let c0_i32_92 : BitVec 32 := 0#32
  let v256 : BitVec 1 := Scalar.cmpi .sgt v254 c0_i32_92
  let v257 : BitVec 32 := Scalar.extui v256
  let c0_i32_93 : BitVec 32 := 0#32
  let v258 : BitVec 1 := Scalar.cmpi .slt v254 c0_i32_93
  let v259 : BitVec 32 := Scalar.extui v258
  let v260 : BitVec 32 := Scalar.subi v257 v259
  let c128_i32_91 : BitVec 32 := 128#32
  let c0_i32_94 : BitVec 32 := 0#32
  let v261 : BitVec 1 := Scalar.cmpi .sgt c128_i32_91 c0_i32_94
  let v262 : BitVec 32 := Scalar.extui v261
  let c0_i32_95 : BitVec 32 := 0#32
  let v263 : BitVec 1 := Scalar.cmpi .slt c128_i32_91 c0_i32_95
  let v264 : BitVec 32 := Scalar.extui v263
  let v265 : BitVec 32 := Scalar.subi v262 v264
  let v266 : BitVec 1 := Scalar.cmpi .ne v260 v265
  let v267 : BitVec 32 := Scalar.remsi v254 c128_i32_91
  let c0_i32_96 : BitVec 32 := 0#32
  let v268 : BitVec 1 := Scalar.cmpi .ne v267 c0_i32_96
  let v269 : BitVec 1 := Scalar.andi v266 v268
  let v255 : BitVec 32 := Scalar.divsi v254 c128_i32_91
  let c1_i32_97 : BitVec 32 := 1#32
  let v270 : BitVec 32 := Scalar.subi v255 c1_i32_97
  let v271 : BitVec 32 := Scalar.select v269 v270 v255
  let v304 : BitVec 32 := Scalar.subi v271 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_110 : BitVec 32 := 1#32
  ⟨c1_i32_108, v308, c1_i32_110⟩
def k0_cond6 (v247 : BitVec 32) (v250 : BitVec 32) : BitVec 1 :=
  let c_m8_i32_87 : BitVec 32 := 4294967288#32
  let v248 : BitVec 32 := Scalar.andi v247 c_m8_i32_87
  let v251 : BitVec 32 := Scalar.subi v250 v248
  let c1_i32_88 : BitVec 32 := 1#32
  let v252 : BitVec 32 := Scalar.addi v251 c1_i32_88
  let c128_i32_89 : BitVec 32 := 128#32
  let v253 : BitVec 32 := Scalar.addi v252 c128_i32_89
  let c1_i32_90 : BitVec 32 := 1#32
  let v254 : BitVec 32 := Scalar.subi v253 c1_i32_90
  let c0_i32_92 : BitVec 32 := 0#32
  let v256 : BitVec 1 := Scalar.cmpi .sgt v254 c0_i32_92
  let v257 : BitVec 32 := Scalar.extui v256
  let c0_i32_93 : BitVec 32 := 0#32
  let v258 : BitVec 1 := Scalar.cmpi .slt v254 c0_i32_93
  let v259 : BitVec 32 := Scalar.extui v258
  let v260 : BitVec 32 := Scalar.subi v257 v259
  let c128_i32_91 : BitVec 32 := 128#32
  let c0_i32_94 : BitVec 32 := 0#32
  let v261 : BitVec 1 := Scalar.cmpi .sgt c128_i32_91 c0_i32_94
  let v262 : BitVec 32 := Scalar.extui v261
  let c0_i32_95 : BitVec 32 := 0#32
  let v263 : BitVec 1 := Scalar.cmpi .slt c128_i32_91 c0_i32_95
  let v264 : BitVec 32 := Scalar.extui v263
  let v265 : BitVec 32 := Scalar.subi v262 v264
  let v266 : BitVec 1 := Scalar.cmpi .ne v260 v265
  let v267 : BitVec 32 := Scalar.remsi v254 c128_i32_91
  let c0_i32_96 : BitVec 32 := 0#32
  let v268 : BitVec 1 := Scalar.cmpi .ne v267 c0_i32_96
  let v269 : BitVec 1 := Scalar.andi v266 v268
  let v255 : BitVec 32 := Scalar.divsi v254 c128_i32_91
  let c1_i32_97 : BitVec 32 := 1#32
  let v270 : BitVec 32 := Scalar.subi v255 c1_i32_97
  let v271 : BitVec 32 := Scalar.select v269 v270 v255
  let c1_i32_105 : BitVec 32 := 1#32
  let v298 : BitVec 1 := Scalar.cmpi .sgt v271 c1_i32_105
  let v299 : BitVec 32 := Scalar.extui v298
  let c0_i32_106 : BitVec 32 := 0#32
  let v300 : BitVec 1 := Scalar.cmpi .ne v299 c0_i32_106
  v300

def k0_off14 (v247 : BitVec 32) (v250 : BitVec 32) (k0_t9 : Fin (k0_t9_loop v247 v250).trips) : Fin 2 → Nat :=
  let c_m8_i32_87 : BitVec 32 := 4294967288#32
  let v248 : BitVec 32 := Scalar.andi v247 c_m8_i32_87
  let c1_i32_108 : BitVec 32 := 1#32
  let c1_i32_110 : BitVec 32 := 1#32
  let arg8 : BitVec 32 := Scf.iv c1_i32_108 c1_i32_110 k0_t9
  let c128_i32_112 : BitVec 32 := 128#32
  let v309 : BitVec 32 := Scalar.muli arg8 c128_i32_112
  let v310 : BitVec 32 := Scalar.addi v248 v309
  let v319 : Index := Scalar.indexCast v310
  let c0_115 : Index := 0#32
  ![v319.toNat, 0]
@[reducible] def k0_t10_loop (v247 : BitVec 32) (v250 : BitVec 32) : Scf.Loop 32 :=
  let c1_i32_108 : BitVec 32 := 1#32
  let c_m8_i32_87 : BitVec 32 := 4294967288#32
  let v248 : BitVec 32 := Scalar.andi v247 c_m8_i32_87
  let v251 : BitVec 32 := Scalar.subi v250 v248
  let c1_i32_88 : BitVec 32 := 1#32
  let v252 : BitVec 32 := Scalar.addi v251 c1_i32_88
  let c128_i32_89 : BitVec 32 := 128#32
  let v253 : BitVec 32 := Scalar.addi v252 c128_i32_89
  let c1_i32_90 : BitVec 32 := 1#32
  let v254 : BitVec 32 := Scalar.subi v253 c1_i32_90
  let c0_i32_92 : BitVec 32 := 0#32
  let v256 : BitVec 1 := Scalar.cmpi .sgt v254 c0_i32_92
  let v257 : BitVec 32 := Scalar.extui v256
  let c0_i32_93 : BitVec 32 := 0#32
  let v258 : BitVec 1 := Scalar.cmpi .slt v254 c0_i32_93
  let v259 : BitVec 32 := Scalar.extui v258
  let v260 : BitVec 32 := Scalar.subi v257 v259
  let c128_i32_91 : BitVec 32 := 128#32
  let c0_i32_94 : BitVec 32 := 0#32
  let v261 : BitVec 1 := Scalar.cmpi .sgt c128_i32_91 c0_i32_94
  let v262 : BitVec 32 := Scalar.extui v261
  let c0_i32_95 : BitVec 32 := 0#32
  let v263 : BitVec 1 := Scalar.cmpi .slt c128_i32_91 c0_i32_95
  let v264 : BitVec 32 := Scalar.extui v263
  let v265 : BitVec 32 := Scalar.subi v262 v264
  let v266 : BitVec 1 := Scalar.cmpi .ne v260 v265
  let v267 : BitVec 32 := Scalar.remsi v254 c128_i32_91
  let c0_i32_96 : BitVec 32 := 0#32
  let v268 : BitVec 1 := Scalar.cmpi .ne v267 c0_i32_96
  let v269 : BitVec 1 := Scalar.andi v266 v268
  let v255 : BitVec 32 := Scalar.divsi v254 c128_i32_91
  let c1_i32_97 : BitVec 32 := 1#32
  let v270 : BitVec 32 := Scalar.subi v255 c1_i32_97
  let v271 : BitVec 32 := Scalar.select v269 v270 v255
  let v304 : BitVec 32 := Scalar.subi v271 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let v305 : BitVec 32 := Scalar.addi c1_i32_108 v304
  let c1_i32_111 : BitVec 32 := 1#32
  ⟨v308, v305, c1_i32_111⟩
def k0_off15 (v247 : BitVec 32) (v250 : BitVec 32) (k0_t10 : Fin (k0_t10_loop v247 v250).trips) : Fin 2 → Nat :=
  let c_m8_i32_87 : BitVec 32 := 4294967288#32
  let v248 : BitVec 32 := Scalar.andi v247 c_m8_i32_87
  let c1_i32_108 : BitVec 32 := 1#32
  let v251 : BitVec 32 := Scalar.subi v250 v248
  let c1_i32_88 : BitVec 32 := 1#32
  let v252 : BitVec 32 := Scalar.addi v251 c1_i32_88
  let c128_i32_89 : BitVec 32 := 128#32
  let v253 : BitVec 32 := Scalar.addi v252 c128_i32_89
  let c1_i32_90 : BitVec 32 := 1#32
  let v254 : BitVec 32 := Scalar.subi v253 c1_i32_90
  let c0_i32_92 : BitVec 32 := 0#32
  let v256 : BitVec 1 := Scalar.cmpi .sgt v254 c0_i32_92
  let v257 : BitVec 32 := Scalar.extui v256
  let c0_i32_93 : BitVec 32 := 0#32
  let v258 : BitVec 1 := Scalar.cmpi .slt v254 c0_i32_93
  let v259 : BitVec 32 := Scalar.extui v258
  let v260 : BitVec 32 := Scalar.subi v257 v259
  let c128_i32_91 : BitVec 32 := 128#32
  let c0_i32_94 : BitVec 32 := 0#32
  let v261 : BitVec 1 := Scalar.cmpi .sgt c128_i32_91 c0_i32_94
  let v262 : BitVec 32 := Scalar.extui v261
  let c0_i32_95 : BitVec 32 := 0#32
  let v263 : BitVec 1 := Scalar.cmpi .slt c128_i32_91 c0_i32_95
  let v264 : BitVec 32 := Scalar.extui v263
  let v265 : BitVec 32 := Scalar.subi v262 v264
  let v266 : BitVec 1 := Scalar.cmpi .ne v260 v265
  let v267 : BitVec 32 := Scalar.remsi v254 c128_i32_91
  let c0_i32_96 : BitVec 32 := 0#32
  let v268 : BitVec 1 := Scalar.cmpi .ne v267 c0_i32_96
  let v269 : BitVec 1 := Scalar.andi v266 v268
  let v255 : BitVec 32 := Scalar.divsi v254 c128_i32_91
  let c1_i32_97 : BitVec 32 := 1#32
  let v270 : BitVec 32 := Scalar.subi v255 c1_i32_97
  let v271 : BitVec 32 := Scalar.select v269 v270 v255
  let v304 : BitVec 32 := Scalar.subi v271 c1_i32_108
  let c1_i32_109 : BitVec 32 := 1#32
  let v306 : BitVec 32 := Scalar.divsi v304 c1_i32_109
  let v307 : BitVec 32 := Scalar.muli v306 c1_i32_109
  let v308 : BitVec 32 := Scalar.addi c1_i32_108 v307
  let c1_i32_111 : BitVec 32 := 1#32
  let arg8 : BitVec 32 := Scf.iv v308 c1_i32_111 k0_t10
  let c128_i32_112 : BitVec 32 := 128#32
  let v309 : BitVec 32 := Scalar.muli arg8 c128_i32_112
  let v310 : BitVec 32 := Scalar.addi v248 v309
  let v319 : Index := Scalar.indexCast v310
  let c0_115 : Index := 0#32
  ![v319.toNat, 0]

def k0_chk10 (v247 : BitVec 32) (v250 : BitVec 32) : Prop :=
  (∀ (k0_h6 : k0_cond6 v247 v250 = 1#1), (k0_t9_loop v247 v250).OK) ∧
  (∀ k0_t9 : Fin (k0_t9_loop v247 v250).trips, ∀ (k0_h6 : k0_cond6 v247 v250 = 1#1), ∀ a, (k0_off14 v247 v250 k0_t9) a + S128x128.size a ≤ S10128x128.size a) ∧
  (∀ (k0_h6 : k0_cond6 v247 v250 = 1#1), (k0_t10_loop v247 v250).OK) ∧
  (∀ k0_t10 : Fin (k0_t10_loop v247 v250).trips, ∀ (k0_h6 : k0_cond6 v247 v250 = 1#1), ∀ a, (k0_off15 v247 v250 k0_t10) a + S128x128.size a ≤ S10128x128.size a)
theorem k0_t9_ok : ∀ (v247 : BitVec 32) (v250 : BitVec 32) (k0_hw10 : k0_chk10 v247 v250), ∀ (k0_h6 : k0_cond6 v247 v250 = 1#1), (k0_t9_loop v247 v250).OK := fun v247 v250 k0_hw10 k0_h6 => k0_hw10.1 k0_h6
theorem k0_off14_inb : ∀ (v247 : BitVec 32) (v250 : BitVec 32) (k0_hw10 : k0_chk10 v247 v250) (k0_t9 : Fin (k0_t9_loop v247 v250).trips), ∀ (k0_h6 : k0_cond6 v247 v250 = 1#1), ∀ a, (k0_off14 v247 v250 k0_t9) a + S128x128.size a ≤ S10128x128.size a := fun v247 v250 k0_hw10 k0_t9 k0_h6 => k0_hw10.2.1 k0_t9 k0_h6
theorem k0_t10_ok : ∀ (v247 : BitVec 32) (v250 : BitVec 32) (k0_hw10 : k0_chk10 v247 v250), ∀ (k0_h6 : k0_cond6 v247 v250 = 1#1), (k0_t10_loop v247 v250).OK := fun v247 v250 k0_hw10 k0_h6 => k0_hw10.2.2.1 k0_h6
theorem k0_off15_inb : ∀ (v247 : BitVec 32) (v250 : BitVec 32) (k0_hw10 : k0_chk10 v247 v250) (k0_t10 : Fin (k0_t10_loop v247 v250).trips), ∀ (k0_h6 : k0_cond6 v247 v250 = 1#1), ∀ a, (k0_off15 v247 v250 k0_t10) a + S128x128.size a ≤ S10128x128.size a := fun v247 v250 k0_hw10 k0_t10 k0_h6 => k0_hw10.2.2.2 k0_t10 k0_h6

def k0_cond7 (i : grid0.Coords) : BitVec 1 :=
  let arg0 : BitVec 32 := BitVec.ofNat 32 (i 0).val
  let c19_i32 : BitVec 32 := 19#32
  let v301 : BitVec 1 := Scalar.cmpi .eq arg0 c19_i32
  let v302 : BitVec 32 := Scalar.extui v301
  let c0_i32_107 : BitVec 32 := 0#32
  let v303 : BitVec 1 := Scalar.cmpi .ne v302 c0_i32_107
  v303

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x16000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000x128 : Shape := ⟨2, ![10000, 128]⟩
abbrev S320000x1 : Shape := ⟨2, ![320000, 1]⟩
abbrev S10000 : Shape := ⟨1, ![10000]⟩
abbrev S10000x1 : Shape := ⟨2, ![10000, 1]⟩

abbrev nBuf : Space → Nat
  | .hbm => 37
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S320000x128, .f32⟩
  | .hbm, ⟨6, _⟩ => ⟨S1x128, .f32⟩
  | .hbm, ⟨7, _⟩ => ⟨S320000x128, .f32⟩
  | .hbm, ⟨8, _⟩ => ⟨S320000x128, .f32⟩
  | .hbm, ⟨9, _⟩ => ⟨S_, .f32⟩
  | .hbm, ⟨10, _⟩ => ⟨S320000x128, .f32⟩
  | .hbm, ⟨11, _⟩ => ⟨S320000x128, .f32⟩
  | .hbm, ⟨12, _⟩ => ⟨S_, .f32⟩
  | .hbm, ⟨13, _⟩ => ⟨S10000x128, .f32⟩
  | .hbm, ⟨14, _⟩ => ⟨S320000x1, .i32⟩
  | .hbm, ⟨15, _⟩ => ⟨S10000x128, .f32⟩
  | .hbm, ⟨16, _⟩ => ⟨S_, .f32⟩
  | .hbm, ⟨17, _⟩ => ⟨S320000, .f32⟩
  | .hbm, ⟨18, _⟩ => ⟨S_, .f32⟩
  | .hbm, ⟨19, _⟩ => ⟨S10000, .f32⟩
  | .hbm, ⟨20, _⟩ => ⟨S320000x1, .i32⟩
  | .hbm, ⟨21, _⟩ => ⟨S10000, .f32⟩
  | .hbm, ⟨22, _⟩ => ⟨S10000x1, .f32⟩
  | .hbm, ⟨23, _⟩ => ⟨S_, .f32⟩
  | .hbm, ⟨24, _⟩ => ⟨S10000x1, .f32⟩
  | .hbm, ⟨25, _⟩ => ⟨S10000x1, .i1⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S1x128, .f32⟩
  | .hbm, ⟨34, _⟩ => ⟨S10000x128, .i1⟩
  | .hbm, ⟨35, _⟩ => ⟨S10000x128, .f32⟩
  | .hbm, ⟨36, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Proof.Range.lean ====
module

public import proofs.«01_k».proof.Defs
public import proofs.«01_k».proof.Proof.Gen.Pre_ids_in_range
public import proofs.«01_k».proof.Proof.Gen.Pre_ids_sorted_in_range
public import Idealize.ShloMosaic.Lib.PointwiseCore
public import Idealize.ShloMosaic.Lib.Tactic.WordOmega
public import Idealize.ShloMosaic.Lib.WordCmp

/-!
# What the preconditions say

`ids_in_range` says that every id, read as a natural number, is below 10000; `ids_sorted_in_range` says this and that no id is
greater than the next one, so that the ids never decrease.
-/

@[expose] public section

set_option maxRecDepth 16384

namespace Cert.KernelIdeal.Seg

open Idealize.ShloMosaic

/-- The conjunction of two bits is one exactly when both are. -/
theorem andi_one (x y : BitVec 1) : IntOp.andi x y = 1#1 ↔ x = 1#1 ∧ y = 1#1 := by revert x y; decide

/-- A truth value as a bit. -/
theorem ofBool_one (p : Bool) : BitVec.ofBool p = 1#1 ↔ p = true := by cases p <;> decide

/-- A word between 0 and 10000, compared with its sign, is below 10000 as a natural number. -/
theorem toNat_lt_of_cmp (x : BitVec 32) (h0 : IntOp.cmpi .sge x 0#32 = 1#1) (h1 : IntOp.cmpi .slt x 10000#32 = 1#1) :
    x.toNat < 10000 := by
  simp only [IntOp.cmpi, ofBool_one, BitVec.sle, BitVec.slt, decide_eq_true_eq, BitVec.toInt, BitVec.toNat_ofNat] at h0 h1
  omega

/-- `ids_in_range` bounds every id. -/
theorem bound_of_range {F : FTy → Type} [FloatOps F] (x : FVec F Cert.Pre_ids_in_range.S320000x128 .f32) (s : IVec Cert.Pre_ids_in_range.S320000 32)
    (w : FVec F Cert.Pre_ids_in_range.S128x128 .f32) (b : FVec F Cert.Pre_ids_in_range.S128 .f32)
    (h : Cert.Pre_ids_in_range.fn x s w b = fun _ => 1#1) (y : Cert.Pre_ids_in_range.S320000.Idx) : (s y).toNat < 10000 := by
  have e := congrFun h y
  simp only [Cert.Pre_ids_in_range.fn, andi, cmpi, broadcastInDim, constantI, andi_one] at e
  exact toNat_lt_of_cmp _ e.1 e.2

/-- `ids_sorted_in_range` bounds every id. -/
theorem bound_of_sorted {F : FTy → Type} [FloatOps F] (x : FVec F Cert.Pre_ids_sorted_in_range.S320000x128 .f32) (s : IVec Cert.Pre_ids_sorted_in_range.S320000 32)
    (w : FVec F Cert.Pre_ids_sorted_in_range.S128x128 .f32) (b : FVec F Cert.Pre_ids_sorted_in_range.S128 .f32)
    (h : Cert.Pre_ids_sorted_in_range.fn x s w b = fun _ => 1#1) (y : Cert.Pre_ids_sorted_in_range.S320000.Idx) : (s y).toNat < 10000 := by
  have e := congrFun h y
  simp only [Cert.Pre_ids_sorted_in_range.fn, andi, cmpi, broadcastInDim, constantI, andi_one] at e
  exact toNat_lt_of_cmp _ e.1.1 e.1.2

/-- `ids_sorted_in_range` says that no id is greater than the next one. -/
theorem step_of_sorted {F : FTy → Type} [FloatOps F] (x : FVec F Cert.Pre_ids_sorted_in_range.S320000x128 .f32) (s : IVec Cert.Pre_ids_sorted_in_range.S320000 32)
    (w : FVec F Cert.Pre_ids_sorted_in_range.S128x128 .f32) (b : FVec F Cert.Pre_ids_sorted_in_range.S128 .f32)
    (h : Cert.Pre_ids_sorted_in_range.fn x s w b = fun _ => 1#1) (n : ℕ) (hn : n + 1 < 320000) :
    (s (ix1 ⟨n, by omega⟩)).toNat ≤ (s (ix1 ⟨n + 1, hn⟩)).toNat := by
  have e := congrFun h (ix1 ⟨n, by omega⟩)
  have b0 := bound_of_sorted x s w b h (ix1 ⟨n, by omega⟩)
  have b1 := bound_of_sorted x s w b h (ix1 ⟨n + 1, hn⟩)
  pointwise [Cert.Pre_ids_sorted_in_range.fn] at e
  have e2 := ((andi_one _ _).1 e).2
  rw [dif_pos (by omega)] at e2
  have e3 : (⟨1 + n, by omega⟩ : Fin 320000) = ⟨n + 1, hn⟩ := Fin.ext (Nat.add_comm 1 n)
  rw [e3] at e2
  simp only [IntOp.cmpi, ofBool_one, BitVec.sle, decide_eq_true_eq, BitVec.toInt] at e2
  omega

/-- `ids_sorted_in_range` says that the ids never decrease. -/
theorem mono_of_sorted {F : FTy → Type} [FloatOps F] (x : FVec F Cert.Pre_ids_sorted_in_range.S320000x128 .f32) (s : IVec Cert.Pre_ids_sorted_in_range.S320000 32)
    (w : FVec F Cert.Pre_ids_sorted_in_range.S128x128 .f32) (b : FVec F Cert.Pre_ids_sorted_in_range.S128 .f32)
    (h : Cert.Pre_ids_sorted_in_range.fn x s w b = fun _ => 1#1) (i j : Fin 320000) (hij : i ≤ j) :
    (s (ix1 i)).toNat ≤ (s (ix1 j)).toNat := by
  obtain ⟨i, hi⟩ := i
  obtain ⟨j, hj⟩ := j
  obtain ⟨d, rfl⟩ : ∃ d, j = i + d := ⟨j - i, by have : i ≤ j := hij; omega⟩
  clear hij
  induction d with
  | zero => exact le_refl _
  | succ d ih => exact (ih (by omega)).trans (step_of_sorted x s w b h (i + d) hj)

end Cert.KernelIdeal.Seg
-- ==== Proof.Words.lean ====
module

public import proofs.«01_k».proof.Proof.Gen.KernelIdeal.Frame
public import Idealize.ShloMosaic.Lib.LoopRemainder
public import Idealize.ShloMosaic.Lib.WordArith.Masks

/-!
# The words of a sub-block

A sub-block of 3200 atoms reads its first id `a` and its last id `b`. It works on the 128-row chunks that start at
`base a = a` rounded down to a multiple of 8, and the number of chunks is `nch a b = ⌊(b - base a + 1 + 127) / 128⌋`.
This module says what these words are when both ids lie in `[0, 10000)`, and discharges the side conditions of the body.
-/

@[expose] public section

set_option maxRecDepth 16384

namespace Cert.KernelIdeal.Seg

open Idealize.ShloMosaic Cert.KernelIdeal
open Idealize.ShloMosaic.WordCmp (cmpi_sgt_eq cmpi_slt_eq cmpi_ne_eq toInt_eq_toNat_of_lt_half)
open Idealize.ShloMosaic.WordArith (toInt_add_of_bounds toInt_sub_of_bounds toInt_mul_of_bounds divsi_one)

/-- The first row of a sub-block's first chunk: its first id rounded down to a multiple of 8. -/
def base (a : BitVec 32) : BitVec 32 := Scalar.andi a 4294967288#32

/-- The first row of chunk `j ≥ 1` of a sub-block is `128 j` rows below the first chunk's. -/
def baseAt (a : BitVec 32) (k : ℕ) : BitVec 32 := Scalar.addi (base a) (Scalar.muli (Scf.iv 1#32 1#32 k) 128#32)

/-- The word divided by 128 to count the chunks. -/
def span (a b : BitVec 32) : BitVec 32 :=
  Scalar.subi (Scalar.addi (Scalar.addi (Scalar.subi b (base a)) 1#32) 128#32) 1#32

/-- The number of chunks, as the body computes a floor division by 128. -/
def nch (a b : BitVec 32) : BitVec 32 :=
  Scalar.select
    (Scalar.andi
      (Scalar.cmpi .ne
        (Scalar.subi (Scalar.extui (Scalar.cmpi .sgt (span a b) 0#32)) (Scalar.extui (Scalar.cmpi .slt (span a b) 0#32)))
        (Scalar.subi (Scalar.extui (Scalar.cmpi .sgt 128#32 0#32)) (Scalar.extui (Scalar.cmpi .slt 128#32 0#32))))
      (Scalar.cmpi .ne (Scalar.remsi (span a b) 128#32) 0#32))
    (Scalar.subi (Scalar.divsi (span a b) 128#32) 1#32)
    (Scalar.divsi (span a b) 128#32)

/-- The mask that rounds down to a multiple of 8 has all bits from bit 3 on. -/
theorem mask_bit : ∀ i : Fin 32, 3 ≤ i.val → (4294967288#32)[i.val] = true := by decide

/-- The quotient that rounds towards zero, by the floor quotient of a number that is not negative. -/
theorem tdiv_128 (x : ℤ) : (0 ≤ x → x.tdiv 128 = x / 128) ∧ (x ≤ 0 → x.tdiv 128 = -((-x) / 128)) := by
  refine ⟨fun h => Int.tdiv_eq_ediv_of_nonneg h, fun h => ?_⟩
  have h2 : (-x).tdiv 128 = (-x) / 128 := Int.tdiv_eq_ediv_of_nonneg (by omega)
  rw [← h2, Int.neg_tdiv]
  omega

/-- The first chunk's base is the id rounded down to a multiple of 8. -/
theorem toNat_base (a : BitVec 32) : (base a).toNat = a.toNat / 8 * 8 := by
  have h : base a = (a >>> 3) <<< 3 := by
    unfold base Scalar.andi IntOp.andi
    ext i hi
    simp only [BitVec.getElem_and, BitVec.getElem_shiftLeft, BitVec.getElem_ushiftRight]
    have : i = 0 ∨ i = 1 ∨ i = 2 ∨ 3 ≤ i := by omega
    rcases this with rfl | rfl | rfl | h3
    · simp
    · simp
    · simp
    · have e : 3 + (i - 3) = i := by omega
      have hd : (4294967288#32)[i] = true := by
        exact mask_bit ⟨i, hi⟩ h3
      rw [hd]
      simp [show ¬ i < 3 by omega, e, BitVec.getLsbD_eq_getElem hi]
  rw [h, BitVec.toNat_shiftLeft, BitVec.toNat_ushiftRight, Nat.shiftLeft_eq, Nat.shiftRight_eq_div_pow]
  have := a.isLt
  omega

/-- The word divided by 128 is `b - base a + 128`. -/
theorem toInt_span (a b : BitVec 32) (ha : a.toNat < 10000) (hb : b.toNat < 10000) :
    (span a b).toInt = (b.toNat : ℤ) - (a.toNat / 8 * 8 : ℕ) + 128 := by
  have h := toNat_base a
  unfold span
  simp only [Scalar.subi, Scalar.addi, IntOp.subi, IntOp.addi]
  have hx : (base a).toInt = (a.toNat / 8 * 8 : ℕ) := by
    rw [toInt_eq_toNat_of_lt_half (by omega), h]
  have hy : b.toInt = (b.toNat : ℤ) := toInt_eq_toNat_of_lt_half (by omega)
  have e1 : (1#32 : BitVec 32).toInt = 1 := by decide
  have e2 : (128#32 : BitVec 32).toInt = 128 := by decide
  have s1 : (b - base a).toInt = b.toInt - (base a).toInt := toInt_sub_of_bounds _ _ (by omega) (by omega)
  have s2 : (b - base a + 1#32).toInt = (b - base a).toInt + (1#32 : BitVec 32).toInt :=
    toInt_add_of_bounds _ _ (by omega) (by omega)
  have s3 : (b - base a + 1#32 + 128#32).toInt = (b - base a + 1#32).toInt + (128#32 : BitVec 32).toInt :=
    toInt_add_of_bounds _ _ (by omega) (by omega)
  rw [toInt_sub_of_bounds _ _ (by omega) (by omega)]
  omega

/-- Division by 128, of a word that is not too negative. -/
theorem toInt_divsi_128 (w : BitVec 32) : (Scalar.divsi w 128#32).toInt = w.toInt.tdiv 128 := by
  have hc : ¬ IntOp.SDivCorner w 128#32 := by
    unfold IntOp.SDivCorner
    rintro (h | ⟨-, h⟩) <;> exact absurd h (by decide)
  unfold Scalar.divsi IntOp.divsi
  rw [if_neg hc, BitVec.toInt_sdiv]
  have e2 : (128#32 : BitVec 32).toInt = 128 := by decide
  rw [e2]
  have h1 := BitVec.le_toInt w
  have h2 := BitVec.toInt_lt (x := w)
  simp only [Nat.reduceSub, Int.reducePow, Int.reduceNeg] at h1 h2
  obtain ⟨t1, t2⟩ := tdiv_128 w.toInt
  rcases le_total 0 w.toInt with h | h
  · have := t1 h
    apply Int.bmod_eq_of_le <;> omega
  · have := t2 h
    apply Int.bmod_eq_of_le <;> omega

/-- With a positive dividend the number of chunks is the plain quotient. -/
theorem toInt_nch_pos (a b : BitVec 32) (hs : 1 ≤ (span a b).toInt) : (nch a b).toInt = (span a b).toInt / 128 := by
  have h1 : Scalar.cmpi .sgt (span a b) 0#32 = 1#1 := by
    have : Scalar.cmpi .sgt (span a b) 0#32 = BitVec.ofBool (decide ((0#32 : BitVec 32).toInt < (span a b).toInt)) := rfl
    rw [this, BitVec.toInt_zero, decide_eq_true (by omega)]; rfl
  have h2 : Scalar.cmpi .slt (span a b) 0#32 = 0#1 := by
    have : Scalar.cmpi .slt (span a b) 0#32 = BitVec.ofBool (decide ((span a b).toInt < (0#32 : BitVec 32).toInt)) := rfl
    rw [this, BitVec.toInt_zero, decide_eq_false (by omega)]; rfl
  have h3 : nch a b = Scalar.divsi (span a b) 128#32 := by
    unfold nch
    rw [h1, h2]
    have : Scalar.cmpi .ne (Scalar.subi (Scalar.extui 1#1) (Scalar.extui 0#1)) (Scalar.subi (Scalar.extui (Scalar.cmpi .sgt 128#32 0#32)) (Scalar.extui (Scalar.cmpi .slt 128#32 0#32))) = 0#1 := by decide
    rw [this]
    simp [Scalar.andi, IntOp.andi, Scalar.select]
  rw [h3, toInt_divsi_128, (tdiv_128 _).1 (by omega)]

/-- With no positive dividend there is no chunk to add. -/
theorem toInt_nch_nonpos (a b : BitVec 32) (hs : (span a b).toInt ≤ 0) (hs' : -100000 ≤ (span a b).toInt) :
    (nch a b).toInt ≤ 1 := by
  have hd := toInt_divsi_128 (span a b)
  have hq : (span a b).toInt.tdiv 128 ≤ 0 ∧ -100000 ≤ (span a b).toInt.tdiv 128 := by
    have := (tdiv_128 (span a b).toInt).2 hs
    omega
  have e1 : (1#32 : BitVec 32).toInt = 1 := by decide
  have hsub : (Scalar.subi (Scalar.divsi (span a b) 128#32) 1#32).toInt ≤ 1 := by
    unfold Scalar.subi IntOp.subi
    rw [toInt_sub_of_bounds _ _ (by omega) (by omega)]
    omega
  unfold nch Scalar.select
  split <;> omega

/-- The second and later chunks are worked on when there are at least two. -/
theorem cond_iff (a b : BitVec 32) : k0_cond2 a b = 1#1 ↔ 1 < (nch a b).toInt := by
  have h : k0_cond2 a b = Scalar.cmpi .ne (Scalar.extui (Scalar.cmpi .sgt (nch a b) 1#32)) 0#32 := rfl
  have e1 : (1#32 : BitVec 32).toInt = 1 := by decide
  rw [h]
  have h2 : Scalar.cmpi .sgt (nch a b) 1#32 = BitVec.ofBool (decide ((1#32 : BitVec 32).toInt < (nch a b).toInt)) := rfl
  rw [h2, e1]
  by_cases hc : 1 < (nch a b).toInt
  · simp only [hc, decide_true]; decide
  · simp only [hc, decide_false]; decide

/-- The loop over the later chunks runs from 1 to the number of chunks. -/
theorem loop_eq (a b : BitVec 32) : k0_t1_loop a b = ⟨1#32, nch a b, 1#32⟩ := by
  have h : k0_t1_loop a b
      = ⟨1#32, Scalar.addi 1#32 (Scalar.muli (Scalar.divsi (Scalar.subi (nch a b) 1#32) 1#32) 1#32), 1#32⟩ := rfl
  rw [h, Scalar.muli_divsi_one]
  congr 1
  simp only [Scalar.addi, Scalar.subi, IntOp.addi, IntOp.subi]
  rw [BitVec.add_comm, BitVec.sub_add_cancel]

/-- The remainder loop makes no trip. -/
theorem rem_trips (a b : BitVec 32) : (k0_t2_loop a b).trips = 0 := Scf.rem_trips 1#32 (Scalar.subi (nch a b) 1#32)

/-- How many trips the loop over the later chunks makes. -/
theorem trips_eq (a b : BitVec 32) : (k0_t1_loop a b).trips = ((nch a b).toInt - 1).toNat := by
  have e1 : (1#32 : BitVec 32).toInt = 1 := by decide
  rw [loop_eq]
  show Scf.trips _ _ _ = _
  unfold Scf.trips
  show (((nch a b).toInt - (1#32 : BitVec 32).toInt + (1#32 : BitVec 32).toInt - 1) / (1#32 : BitVec 32).toInt).toNat = _
  rw [e1]
  congr 1
  omega

theorem nch_le (a b : BitVec 32) (ha : a.toNat < 10000) (hb : b.toNat < 10000) (hc : 1 < (nch a b).toInt) :
    1 ≤ (span a b).toInt ∧ (nch a b).toInt = (span a b).toInt / 128 := by
  have hs := toInt_span a b ha hb
  by_cases h : 1 ≤ (span a b).toInt
  · exact ⟨h, toInt_nch_pos a b h⟩
  · have := toInt_nch_nonpos a b (by omega) (by omega)
    omega

/-- The row a later chunk starts at. -/
theorem toNat_baseAt (a : BitVec 32) (k : ℕ) (ha : a.toNat < 10000) (hk : k < 10000) :
    (baseAt a k).toNat = a.toNat / 8 * 8 + 128 * (1 + k) := by
  have h := toNat_base a
  unfold baseAt Scf.iv
  simp only [Scalar.addi, Scalar.muli, IntOp.addi, IntOp.muli, BitVec.toNat_add, BitVec.toNat_mul, h, BitVec.toNat_ofNat]
  omega

/-- Every chunk the loop works on lies in the accumulator. -/
theorem baseAt_le (a b : BitVec 32) (ha : a.toNat < 10000) (hb : b.toNat < 10000) (hc : k0_cond2 a b = 1#1) (k : ℕ)
    (hk : k < (k0_t1_loop a b).trips) : k < 10000 ∧ a.toNat / 8 * 8 + 128 * (1 + k) ≤ 10000 := by
  rw [cond_iff] at hc
  rw [trips_eq] at hk
  obtain ⟨h1, h2⟩ := nch_le a b ha hb hc
  have hs := toInt_span a b ha hb
  omega

/-- The side condition of the first chunk. -/
theorem chk1 (a : BitVec 32) (ha : a.toNat < 10000) : k0_chk1 a := by
  have h : (Scalar.addi (base a) 0#32).toNat ≤ 10000 := by
    simp only [Scalar.addi, IntOp.addi, BitVec.add_zero, toNat_base]
    omega
  intro x
  fin_cases x
  · show (Scalar.addi (base a) 0#32).toNat + 128 ≤ 10128
    omega
  · show 0 + 128 ≤ 128
    omega

/-- The side condition of the later chunks. -/
theorem chk2 (a b : BitVec 32) (ha : a.toNat < 10000) (hb : b.toNat < 10000) : k0_chk2 a b := by
  refine ⟨fun hc => ?_, fun k hc x => ?_, fun _ => ?_, fun k _ => ?_⟩
  · have hc' := hc
    rw [cond_iff] at hc
    have ht := trips_eq a b
    have e1 : (1#32 : BitVec 32).toInt = 1 := by decide
    have h2 := BitVec.toInt_lt (x := nch a b)
    rw [loop_eq] at ht ⊢
    refine ⟨by rw [show (Scf.Loop.mk 1#32 (nch a b) 1#32).st.toInt = 1 from e1]; decide, ?_⟩
    show (1#32 : BitVec 32).toInt + (Scf.Loop.trips ⟨1#32, nch a b, 1#32⟩ : ℕ) * (1#32 : BitVec 32).toInt < _
    rw [ht, e1]
    omega
  · obtain ⟨h1, h2⟩ := baseAt_le a b ha hb hc k.val k.isLt
    have h3 := toNat_baseAt a k.val ha h1
    fin_cases x
    · show (baseAt a k.val).toNat + 128 ≤ 10128
      omega
    · show 0 + 128 ≤ 128
      omega
  · exact Scf.rem_ok 1#32 (Scalar.subi (nch a b) 1#32)
  · exact absurd k.isLt (by have := rem_trips a b; omega)

end Cert.KernelIdeal.Seg
-- ==== Proof.Model.lean ====
module

public import proofs.«01_k».proof.Proof.Words
public import Idealize.ShloMosaic.Lib.WholeRead

/-!
# What the body does to the two accumulators

`bump o P A` is the array `A` with the 128 rows from row `o` replaced by `P` of those rows. A chunk bumps both
accumulators (by `accPay` and `cntPay`), a sub-block is the first chunk and then the later ones (`accSub`, `cntSub`), and a
point is five sub-blocks (`accPt`, `cntPt`). All of this holds in any float semantics.
-/

@[expose] public section

set_option maxRecDepth 16384

noncomputable section

namespace Cert.KernelIdeal.Seg

open Idealize.ShloMosaic Cert.KernelIdeal Cert.KernelIdeal.Gen

variable {F : FTy → Type} [FloatOps F]

/-- The rows `o … o + 127` of an accumulator (rows from 10000 on when `o` is larger). -/
theorem rows_inb (o : ℕ) : ∀ a, (![min o 10000, 0] : Fin 2 → ℕ) a + S128x128.size a ≤ S10128x128.size a := by
  intro x
  fin_cases x
  · show min o 10000 + 128 ≤ 10128
    omega
  · show 0 + 128 ≤ 128
    omega

/-- The rows a chunk that starts at row `o` works on. -/
abbrev rows (o : ℕ) : Rect S10128x128 := Rect.unit (s := S10128x128) ![min o 10000, 0] S128x128.size (rows_inb o)

/-- The array `A` with `P` applied to the 128 rows from row `o`. -/
def bump (o : ℕ) (P : Vec F S128x128 .f32 → Vec F S128x128 .f32) (A : Vec F S10128x128 .f32) : Vec F S10128x128 .f32 :=
  fun y => open Classical in
    if h : ∃ z : (rows o).shape.Idx, (rows o).emb z = y then P (fun z => A ((rows o).emb z)) h.choose else A y

/-- In the window, `bump` is the payload. -/
theorem bump_emb (o : ℕ) (P : Vec F S128x128 .f32 → Vec F S128x128 .f32) (A : Vec F S10128x128 .f32) (z : S128x128.Idx) :
    bump o P A ((rows o).emb z) = P (fun z => A ((rows o).emb z)) z := by
  have h : ∃ z' : (rows o).shape.Idx, (rows o).emb z' = (rows o).emb z := ⟨z, rfl⟩
  unfold bump
  rw [dif_pos h]
  congr 1
  exact (rows o).emb.injective h.choose_spec

/-- Outside the window, `bump` changes nothing. -/
theorem bump_miss (o : ℕ) (P : Vec F S128x128 .f32 → Vec F S128x128 .f32) (A : Vec F S10128x128 .f32) (y : S10128x128.Idx)
    (h : ∀ z : (rows o).shape.Idx, (rows o).emb z ≠ y) : bump o P A y = A y := by
  unfold bump
  rw [dif_neg (by rintro ⟨z, hz⟩; exact h z hz)]

/-- Storing `P` of the rows read back is `bump`. -/
theorem writes_bump {M : Memref sig .tc .vmem S10128x128 .f32} (hM : M.IsWhole) (A : Vec F S10128x128 .f32) (o : ℕ)
    (off : Fin 2 → ℕ) (inb : ∀ a, off a + S128x128.size a ≤ S10128x128.size a) (ho : off = ![min o 10000, 0])
    (P : Vec F S128x128 .f32 → Vec F S128x128 .f32) :
    M.view.writes (Elt F) (hM.unread A)
        [⟨Rect.unit (s := S10128x128) off S128x128.size inb,
          P (M.view.readAt (Elt F) (Rect.unit (s := S10128x128) off S128x128.size inb).toLoadRect (hM.unread A))⟩]
      = hM.unread (bump o P A) := by
  subst ho
  apply hM.eq_unread
  funext y
  by_cases h : ∃ z : (rows o).shape.Idx, (rows o).emb z = y
  · obtain ⟨z, rfl⟩ := h
    rw [View.read_writes_cons_emb, bump_emb]
    congr 1
    funext z'
    exact hM.readAt_unread _ _ _
  · rw [bump_miss _ _ _ _ (fun z hz => h ⟨z, hz⟩), View.read_writes_cons_miss]
    · rw [View.writes_nil, hM.read_unread]
    · intro hy
      apply h
      rw [← Rect.map_emb_univ] at hy
      obtain ⟨z, -, hz⟩ := Finset.mem_map.mp hy
      exact ⟨z, hz⟩

/-- Which of the 3200 atoms have the id `base + r`, as 0 or 1: row `r` of 128. -/
def hot (ids : IVec S3200 32) (b : BitVec 32) : FVec F S128x3200 .f32 :=
  sitofp .f32 (extui 32 (cmpi .eq
    (broadcastTo S128x3200 (subi (shapeCast S1x3200 ids shapeCasts_S3200_S1x3200) (broadcast S1x3200 b)) broadcasts_S1x3200_S128x3200)
    (iota .tc S128x3200 32 [0] iota_S128x3200_d0_w32)) natLt_1_32)

/-- A chunk adds to its rows the sums of the activations of the atoms of those rows. -/
def accPay (ids : IVec S3200 32) (h : FVec F S3200x128 .f32) (b : BitVec 32) (X : Vec F S128x128 .f32) : Vec F S128x128 .f32 :=
  shapeCast S128x128 (addf X (matmul dot_S128x3200_S3200x128_S128x128_1_0_0_1_n_n none (hot ids b) h
    (constant S128x128 .f32 0x00000000#32))) shapeCasts_S128x128_S128x128

/-- A chunk adds to its rows the numbers of the atoms of those rows. -/
def cntPay (ids : IVec S3200 32) (b : BitVec 32) (X : Vec F S128x128 .f32) : Vec F S128x128 .f32 :=
  shapeCast S128x128 (addf X (broadcastTo S128x128 (shapeCast S128x1
    (multiReduction .add [1] S128 (hot (F := F) ids b) 0x00000000#32 reduces_S128x3200_S128 (.inl rfl) rfl)
    shapeCasts_S128_S128x1) broadcasts_S128x1_S128x128)) shapeCasts_S128x128_S128x128

/-- `f 0`, then `f 1`, … then `f (n - 1)`. -/
def iter {α : Type} (f : ℕ → α → α) : ℕ → α → α
  | 0, x => x
  | n + 1, x => f n (iter f n x)

/-- How many later chunks a sub-block with first id `a` and last id `b` has. -/
def later (a b : BitVec 32) : ℕ := if k0_cond2 a b = 1#1 then (k0_t1_loop a b).trips else 0

/-- The sums after a sub-block with first id `a` and last id `b`. -/
def accSub (a b : BitVec 32) (ids : IVec S3200 32) (h : FVec F S3200x128 .f32) (A : Vec F S10128x128 .f32) : Vec F S10128x128 .f32 :=
  iter (fun k => bump (baseAt a k).toNat (accPay ids h (baseAt a k))) (later a b)
    (bump (Scalar.addi (base a) 0#32).toNat (accPay ids h (Scalar.addi (base a) 0#32)) A)

/-- The counts after a sub-block with first id `a` and last id `b`. -/
def cntSub (a b : BitVec 32) (ids : IVec S3200 32) (C : Vec F S10128x128 .f32) : Vec F S10128x128 .f32 :=
  iter (fun k => bump (baseAt a k).toNat (cntPay ids (baseAt a k))) (later a b)
    (bump (Scalar.addi (base a) 0#32).toNat (cntPay ids (Scalar.addi (base a) 0#32)) C)

/-- The ids of sub-block `s` of a block of 16000 atoms. -/
def subIds (s : ℕ) (hs : S16000.Slices ![3200 * s] S3200) (v : IVec S16000 32) : IVec S3200 32 :=
  extractStridedSlice S3200 ![3200 * s] v hs

/-- The activations of sub-block `s`. -/
def subH (s : ℕ) (hs : S16000x128.Slices ![3200 * s, 0] S3200x128) (v : FVec F S16000x128 .f32) : FVec F S3200x128 .f32 :=
  extractStridedSlice S3200x128 ![3200 * s, 0] v hs

/-- The first id of a sub-block. -/
def firstId (ids : IVec S3200 32) : BitVec 32 :=
  extractAt ![0] (extractStridedSlice S1 ![0] ids slices_S3200_o0_S1) inpos_S1_p0

/-- The last id of a sub-block. -/
def lastId (ids : IVec S3200 32) : BitVec 32 :=
  extractAt ![0] (extractStridedSlice S1 ![3199] ids slices_S3200_o3199_S1) inpos_S1_p0

/-- The sums after a sub-block. -/
abbrev accS (ids : IVec S3200 32) (h : FVec F S3200x128 .f32) (A : Vec F S10128x128 .f32) : Vec F S10128x128 .f32 :=
  accSub (firstId ids) (lastId ids) ids h A

/-- The counts after a sub-block. -/
abbrev cntS (ids : IVec S3200 32) (C : Vec F S10128x128 .f32) : Vec F S10128x128 .f32 :=
  cntSub (firstId ids) (lastId ids) ids C

/-- The sums after a point's five sub-blocks, from the block's ids and activations. -/
def accPt (v : IVec S16000 32) (h : FVec F S16000x128 .f32) (A : Vec F S10128x128 .f32) : Vec F S10128x128 .f32 :=
  accS (subIds 4 slices_S16000_o12800_S3200 v) (subH 4 slices_S16000x128_o12800_0_S3200x128 h)
    (accS (subIds 3 slices_S16000_o9600_S3200 v) (subH 3 slices_S16000x128_o9600_0_S3200x128 h)
      (accS (subIds 2 slices_S16000_o6400_S3200 v) (subH 2 slices_S16000x128_o6400_0_S3200x128 h)
        (accS (subIds 1 slices_S16000_o3200_S3200 v) (subH 1 slices_S16000x128_o3200_0_S3200x128 h)
          (accS (subIds 0 slices_S16000_o0_S3200 v) (subH 0 slices_S16000x128_o0_0_S3200x128 h) A))))

/-- The counts after a point's five sub-blocks. -/
def cntPt (v : IVec S16000 32) (C : Vec F S10128x128 .f32) : Vec F S10128x128 .f32 :=
  cntS (subIds 4 slices_S16000_o12800_S3200 v) (cntS (subIds 3 slices_S16000_o9600_S3200 v)
    (cntS (subIds 2 slices_S16000_o6400_S3200 v) (cntS (subIds 1 slices_S16000_o3200_S3200 v)
      (cntS (subIds 0 slices_S16000_o0_S3200 v) C))))

/-- The rows of an accumulator that go to the result: the first 10000. -/
def top (A : Vec F S10128x128 .f32) : Vec F S10000x128 .f32 :=
  fun y => A ((Rect.unit (s := S10128x128) ![0, 0] S10000x128.size inb_S10128x128_S10000x128_0_0).emb y)

end Cert.KernelIdeal.Seg
-- ==== Proof.SubBlock.lean ====
module

public import proofs.«01_k».proof.Proof.Model
public import proofs.«01_k».proof.Proof.Gen.KernelIdeal.Skeleton
public import Idealize.ShloMosaic.Lib.Exec

/-!
# The conditional loop of a sub-block

`region_run` runs the part of a sub-block that follows its first chunk: when there is more than one chunk, the loop over the
later ones. It is stated once, for any two ids and vectors, and each of the five sub-blocks of the body is an instance.
-/

@[expose] public section

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- One later chunk: both accumulators' rows are read, added to and stored. -/
def chunkProg (arg6 arg7 : Memref sig .tc .vmem S10128x128 .f32) (off : Fin 2 → ℕ)
    (inb : ∀ a, off a + S128x128.size a ≤ S10128x128.size a) (P Q : Vec F S128x128 .f32 → Vec F S128x128 .f32) :
    Prog (TpuEff nD τ sig (Elt F) Λ₀ .tc) Unit := do
  let v320 : Vec F S128x128 .f32 ← Prog.lift (.load arg6 (Rect.unit (s := S10128x128) off S128x128.size inb).toLoadRect (View.loadsAt_vmem h_S128x128))
  let v323 : Vec F S128x128 .f32 ← Prog.lift (.load arg6 (Rect.unit (s := S10128x128) off S128x128.size inb).toLoadRect (View.loadsAt_vmem h_S128x128))
  Prog.lift (.store arg6 (Rect.unit (s := S10128x128) off S128x128.size inb) (P v320) Finset.univ (View.stores_vmem_bits_univ h_S128x128 rfl) (.inl rfl))
  let v327 : Vec F S128x128 .f32 ← Prog.lift (.load arg7 (Rect.unit (s := S10128x128) off S128x128.size inb).toLoadRect (View.loadsAt_vmem h_S128x128))
  let v332 : Vec F S128x128 .f32 ← Prog.lift (.load arg7 (Rect.unit (s := S10128x128) off S128x128.size inb).toLoadRect (View.loadsAt_vmem h_S128x128))
  Prog.lift (.store arg7 (Rect.unit (s := S10128x128) off S128x128.size inb) (Q v327) Finset.univ (View.stores_vmem_bits_univ h_S128x128 rfl) (.inl rfl))
  pure ⟨⟩

/-- A later chunk applies `P` to its rows of the sums and `Q` to its rows of the counts. -/
theorem chunk_run (c : Dev nD) (arg6 : Memref sig .tc .vmem S10128x128 .f32) (harg6 : arg6.IsWhole)
    (arg7 : Memref sig .tc .vmem S10128x128 .f32) (harg7 : arg7.IsWhole) (o : ℕ) (off : Fin 2 → ℕ)
    (inb : ∀ a, off a + S128x128.size a ≤ S10128x128.size a) (ho : off = ![min o 10000, 0])
    (P Q : Vec F S128x128 .f32 → Vec F S128x128 .f32) (A C : Vec F S10128x128 .f32) (E : Set ℕ) :
    iprop((arg6.view.loc (c : Thread nD τ) ↦[arg6.view.set]{fullShare} harg6.unread A)
        ∗ (arg7.view.loc (c : Thread nD τ) ↦[arg7.view.set]{fullShare} harg7.unread C))
      ⊢ wp frame (wpE (defs₀ (F := F)) Variants.none c none) E (chunkProg arg6 arg7 off inb P Q)
        (fun _ => (iprop((arg6.view.loc (c : Thread nD τ) ↦[arg6.view.set]{fullShare} harg6.unread (bump o P A))
          ∗ (arg7.view.loc (c : Thread nD τ) ↦[arg7.view.set]{fullShare} harg7.unread (bump o Q C))) : sProp 𝕄)) := by
  rw [← writes_bump harg6 A o off inb ho P, ← writes_bump harg7 C o off inb ho Q]
  unfold chunkProg
  iintro ⟨H6, H7⟩
  sl_exec
  sl_step
  isplitl [H6]
  · iexact H6
  · iexact H7

/-- What follows the first chunk of a sub-block with first id `a` and last id `b`. The two loops' regions are any that are
the later chunk's program (`hB`), and the remainder loop makes no trip whatever its region is. -/
theorem region_run (c : Dev nD) (arg6 : Memref sig .tc .vmem S10128x128 .f32) (harg6 : arg6.IsWhole)
    (arg7 : Memref sig .tc .vmem S10128x128 .f32) (harg7 : arg7.IsWhole) (a b : BitVec 32) (ha : a.toNat < 10000)
    (hb : b.toNat < 10000) (ids : IVec S3200 32) (h : FVec F S3200x128 .f32) (A C : Vec F S10128x128 .f32)
    (hw1 : k0_chk1 a) (hw2 : k0_chk2 a b)
    (B1 : k0_cond2 a b = 1#1 → Fin (k0_t1_loop a b).trips → Unit → Prog (TpuEff nD τ sig (Elt F) Λ₀ .tc) Unit)
    (B2 : k0_cond2 a b = 1#1 → Fin (k0_t2_loop a b).trips → Unit → Prog (TpuEff nD τ sig (Elt F) Λ₀ .tc) Unit)
    (hB : ∀ hc k u, B1 hc k u = chunkProg arg6 arg7 (k0_off2 a b k) (k0_off2_inb a b hw2 k hc)
      (accPay ids h (baseAt a k)) (cntPay ids (baseAt a k)))
    {α : Type} (r : Prog (TpuEff nD τ sig (Elt F) Λ₀ .tc) α) (E : Set ℕ) (Q : α → sProp 𝕄) :
    iprop((arg6.view.loc (c : Thread nD τ) ↦[arg6.view.set]{fullShare}
          arg6.view.writes (Elt F) (harg6.unread A) [⟨Rect.unit (s := S10128x128) (k0_off1 a) S128x128.size (k0_off1_inb a hw1),
            accPay ids h (Scalar.addi (base a) 0#32) (arg6.view.readAt (Elt F)
              (Rect.unit (s := S10128x128) (k0_off1 a) S128x128.size (k0_off1_inb a hw1)).toLoadRect (harg6.unread A))⟩])
        ∗ (arg7.view.loc (c : Thread nD τ) ↦[arg7.view.set]{fullShare}
          arg7.view.writes (Elt F) (harg7.unread C) [⟨Rect.unit (s := S10128x128) (k0_off1 a) S128x128.size (k0_off1_inb a hw1),
            cntPay ids (Scalar.addi (base a) 0#32) (arg7.view.readAt (Elt F)
              (Rect.unit (s := S10128x128) (k0_off1 a) S128x128.size (k0_off1_inb a hw1)).toLoadRect (harg7.unread C))⟩])
        ∗ (iprop((arg6.view.loc (c : Thread nD τ) ↦[arg6.view.set]{fullShare} harg6.unread (accSub a b ids h A))
            ∗ (arg7.view.loc (c : Thread nD τ) ↦[arg7.view.set]{fullShare} harg7.unread (cntSub a b ids C)))
          -∗ wp frame (wpE (defs₀ (F := F)) Variants.none c none) E r Q))
      ⊢ wp frame (wpE (defs₀ (F := F)) Variants.none c none) E
        (if hc : k0_cond2 a b = 1#1 then
          (Scf.Loop.for (k0_t1_loop a b) (k0_t1_ok a b hw2 hc) ⟨⟩ (B1 hc)
            >>= fun _ => Scf.Loop.for (k0_t2_loop a b) (k0_t2_ok a b hw2 hc) ⟨⟩ (B2 hc) >>= fun _ => r)
        else r) Q := by
  have ho : k0_off1 a = ![min (Scalar.addi (base a) 0#32).toNat 10000, 0] := by
    have h0 : k0_off1 a = ![(Scalar.addi (base a) 0#32).toNat, 0] := rfl
    have h1 : (Scalar.addi (base a) 0#32).toNat ≤ 10000 := by
      simp only [Scalar.addi, IntOp.addi, BitVec.add_zero, toNat_base]
      omega
    rw [h0, min_eq_left h1]
  rw [writes_bump harg6 A _ _ _ ho, writes_bump harg7 C _ _ _ ho]
  by_cases hc : k0_cond2 a b = 1#1
  · rw [dif_pos hc]
    unfold accSub cntSub later
    rw [if_pos hc]
    generalize bump (Scalar.addi (base a) 0#32).toNat (accPay ids h (Scalar.addi (base a) 0#32)) A = A0
    generalize bump (Scalar.addi (base a) 0#32).toNat (cntPay ids (Scalar.addi (base a) 0#32)) C = C0
    have hstep : ∀ (k : Fin (k0_t1_loop a b).trips) (u : Unit),
        iprop((arg6.view.loc (c : Thread nD τ) ↦[arg6.view.set]{fullShare} harg6.unread (iter (fun k => bump (baseAt a k).toNat (accPay ids h (baseAt a k))) k.val A0))
          ∗ (arg7.view.loc (c : Thread nD τ) ↦[arg7.view.set]{fullShare} harg7.unread (iter (fun k => bump (baseAt a k).toNat (cntPay ids (baseAt a k))) k.val C0)))
        ⊢ wp frame (wpE (defs₀ (F := F)) Variants.none c none) E (B1 hc k u) (fun _ =>
        (iprop((arg6.view.loc (c : Thread nD τ) ↦[arg6.view.set]{fullShare} harg6.unread (iter (fun k => bump (baseAt a k).toNat (accPay ids h (baseAt a k))) (k.val + 1) A0))
          ∗ (arg7.view.loc (c : Thread nD τ) ↦[arg7.view.set]{fullShare} harg7.unread (iter (fun k => bump (baseAt a k).toNat (cntPay ids (baseAt a k))) (k.val + 1) C0))) : sProp 𝕄)) := by
      intro k u
      rw [hB hc k u]
      refine chunk_run c arg6 harg6 arg7 harg7 (baseAt a k).toNat _ _ ?_ _ _ _ _ E
      have h0 : k0_off2 a b k = ![(baseAt a k).toNat, 0] := rfl
      obtain ⟨h1, h2⟩ := baseAt_le a b ha hb hc k.val k.isLt
      have h3 := toNat_baseAt a k.val ha h1
      rw [h0, min_eq_left (by omega)]
    iintro ⟨H6, H7, Hk⟩
    ihave HI : iprop((arg6.view.loc (c : Thread nD τ) ↦[arg6.view.set]{fullShare} harg6.unread (iter (fun k => bump (baseAt a k).toNat (accPay ids h (baseAt a k))) 0 A0))
        ∗ (arg7.view.loc (c : Thread nD τ) ↦[arg7.view.set]{fullShare} harg7.unread (iter (fun k => bump (baseAt a k).toNat (cntPay ids (baseAt a k))) 0 C0))) $$ [H6 H7]
    · isplitl [H6]
      · iexact H6
      · iexact H7
    iapply (Scf.wp_for_bind _ _ E _ _ _ (k0_t1_ok a b hw2 hc) ⟨⟩ (B1 hc) (fun k _ => (iprop((arg6.view.loc (c : Thread nD τ) ↦[arg6.view.set]{fullShare} harg6.unread (iter (fun k => bump (baseAt a k).toNat (accPay ids h (baseAt a k))) k A0))
          ∗ (arg7.view.loc (c : Thread nD τ) ↦[arg7.view.set]{fullShare} harg7.unread (iter (fun k => bump (baseAt a k).toNat (cntPay ids (baseAt a k))) k C0))) : sProp 𝕄)) hstep) $$ HI
    iintro %u HI
    iapply (Scf.wp_for_bind _ _ E _ _ _ (k0_t2_ok a b hw2 hc) ⟨⟩ (B2 hc) (fun _ _ => (iprop((arg6.view.loc (c : Thread nD τ) ↦[arg6.view.set]{fullShare} harg6.unread (iter (fun k => bump (baseAt a k).toNat (accPay ids h (baseAt a k))) (k0_t1_loop a b).trips A0))
          ∗ (arg7.view.loc (c : Thread nD τ) ↦[arg7.view.set]{fullShare} harg7.unread (iter (fun k => bump (baseAt a k).toNat (cntPay ids (baseAt a k))) (k0_t1_loop a b).trips C0))) : sProp 𝕄)) (fun k _ => absurd (lt_of_lt_of_eq k.isLt (rem_trips a b)) (Nat.not_lt_zero _))) $$ HI
    iintro %u' HI
    iapply Hk
    iexact HI
  · rw [dif_neg hc]
    unfold accSub cntSub later
    rw [if_neg hc]
    iintro ⟨H6, H7, Hk⟩
    iapply Hk
    isplitl [H6]
    · iexact H6
    · iexact H7

/-- `region_run` where a continuation follows the part of the body that the sub-block is in. -/
theorem region_bind (c : Dev nD) (arg6 : Memref sig .tc .vmem S10128x128 .f32) (harg6 : arg6.IsWhole)
    (arg7 : Memref sig .tc .vmem S10128x128 .f32) (harg7 : arg7.IsWhole) (a b : BitVec 32) (ha : a.toNat < 10000)
    (hb : b.toNat < 10000) (ids : IVec S3200 32) (h : FVec F S3200x128 .f32) (A C : Vec F S10128x128 .f32)
    (hw1 : k0_chk1 a) (hw2 : k0_chk2 a b)
    (B1 : k0_cond2 a b = 1#1 → Fin (k0_t1_loop a b).trips → Unit → Prog (TpuEff nD τ sig (Elt F) Λ₀ .tc) Unit)
    (B2 : k0_cond2 a b = 1#1 → Fin (k0_t2_loop a b).trips → Unit → Prog (TpuEff nD τ sig (Elt F) Λ₀ .tc) Unit)
    (hB : ∀ hc k u, B1 hc k u = chunkProg arg6 arg7 (k0_off2 a b k) (k0_off2_inb a b hw2 k hc)
      (accPay ids h (baseAt a k)) (cntPay ids (baseAt a k)))
    {α β : Type} (r : Prog (TpuEff nD τ sig (Elt F) Λ₀ .tc) α) (kk : α → Prog (TpuEff nD τ sig (Elt F) Λ₀ .tc) β)
    (E : Set ℕ) (Q : β → sProp 𝕄) :
    iprop((arg6.view.loc (c : Thread nD τ) ↦[arg6.view.set]{fullShare}
          arg6.view.writes (Elt F) (harg6.unread A) [⟨Rect.unit (s := S10128x128) (k0_off1 a) S128x128.size (k0_off1_inb a hw1),
            accPay ids h (Scalar.addi (base a) 0#32) (arg6.view.readAt (Elt F)
              (Rect.unit (s := S10128x128) (k0_off1 a) S128x128.size (k0_off1_inb a hw1)).toLoadRect (harg6.unread A))⟩])
        ∗ (arg7.view.loc (c : Thread nD τ) ↦[arg7.view.set]{fullShare}
          arg7.view.writes (Elt F) (harg7.unread C) [⟨Rect.unit (s := S10128x128) (k0_off1 a) S128x128.size (k0_off1_inb a hw1),
            cntPay ids (Scalar.addi (base a) 0#32) (arg7.view.readAt (Elt F)
              (Rect.unit (s := S10128x128) (k0_off1 a) S128x128.size (k0_off1_inb a hw1)).toLoadRect (harg7.unread C))⟩])
        ∗ (iprop((arg6.view.loc (c : Thread nD τ) ↦[arg6.view.set]{fullShare} harg6.unread (accSub a b ids h A))
            ∗ (arg7.view.loc (c : Thread nD τ) ↦[arg7.view.set]{fullShare} harg7.unread (cntSub a b ids C)))
          -∗ wp frame (wpE (defs₀ (F := F)) Variants.none c none) E (r >>= kk) Q))
      ⊢ wp frame (wpE (defs₀ (F := F)) Variants.none c none) E
        ((if hc : k0_cond2 a b = 1#1 then
          (Scf.Loop.for (k0_t1_loop a b) (k0_t1_ok a b hw2 hc) ⟨⟩ (B1 hc)
            >>= fun _ => Scf.Loop.for (k0_t2_loop a b) (k0_t2_ok a b hw2 hc) ⟨⟩ (B2 hc) >>= fun _ => r)
        else r) >>= kk) Q := by
  rw [wp_bind, wp_bind]
  exact region_run c arg6 harg6 arg7 harg7 a b ha hb ids h A C hw1 hw2 B1 B2 hB r E _

end Cert.KernelIdeal.Seg
-- ==== Proof.Point.lean ====
module

public import proofs.«01_k».proof.Proof.SubBlock

/-!
# One grid point

`point_run` runs the body at a grid point: at the first point the accumulators are zeroed, then come the five sub-blocks, and
at the last point the quotient is stored into the result's buffer. It holds in any float semantics, for ids in `[0, 10000)`.
-/

@[expose] public section

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Whether a point is the first one, as the body computes it. -/
def isFirst (i : grid0.Coords) : BitVec 1 :=
  Scalar.cmpi .ne (Scalar.extui (Scalar.cmpi .eq (BitVec.ofNat 32 (i 0).val) 0#32)) 0#32

/-- Storing over the whole of a buffer leaves what was stored. -/
theorem writes_all {s : Shape} (M : Memref sig .tc .vmem s .f32) (hM : M.IsWhole) (A W : Vec F s .f32)
    (off : Fin s.rank → ℕ) (inb : ∀ a, off a + s.size a ≤ s.size a) (ho : ∀ a, off a = 0) :
    M.view.writes (Elt F) (hM.unread A) [⟨Rect.unit (s := s) off s.size inb, W⟩] = hM.unread W := by
  apply hM.eq_unread
  funext y
  refine View.read_writes_cons_hit_of_coords _ _ (Rect.unit (s := s) off s.size inb) W [] y y fun a => ?_
  show (y a).val = off a + 1 * (y a).val
  rw [ho a]
  omega

/-- Loading the whole of a buffer reads its contents. -/
theorem readAt_all {s : Shape} {e : EltTy} (M : Memref sig .tc .vmem s e) (hM : M.IsWhole) (A : Vec F s e)
    (off : Fin s.rank → ℕ) (inb : ∀ a, off a + s.size a ≤ s.size a) (ho : ∀ a, off a = 0) :
    M.view.readAt (Elt F) (Rect.unit (s := s) off s.size inb).toLoadRect (hM.unread A) = A := by
  funext y
  rw [hM.readAt_unread]
  congr 1
  funext a
  apply Fin.ext
  show off a + 1 * (y a).val = (y a).val
  rw [ho a]
  omega

theorem zero2 : ∀ a : Fin 2, (![0, 0] : Fin 2 → ℕ) a = 0 := by decide
theorem zero3 : ∀ a : Fin 3, (![0, 0, 0] : Fin 3 → ℕ) a = 0 := by decide

/-- The accumulators as the sub-blocks of a point find them: zeroed at the first point. -/
def start (z : BitVec 1) (Z A : Vec F S10128x128 .f32) : Vec F S10128x128 .f32 := if z = 1#1 then Z else A

/-- The zeroing of the accumulators at the first point. -/
theorem init_bind (c : Dev nD) (arg6 : Memref sig .tc .vmem S10128x128 .f32) (harg6 : arg6.IsWhole)
    (arg7 : Memref sig .tc .vmem S10128x128 .f32) (harg7 : arg7.IsWhole) (z : BitVec 1) (A C : Vec F S10128x128 .f32)
    {α β : Type} (r : Prog (TpuEff nD τ sig (Elt F) Λ₀ .tc) α) (kk : α → Prog (TpuEff nD τ sig (Elt F) Λ₀ .tc) β)
    (E : Set ℕ) (Q : β → sProp 𝕄) :
    iprop((arg6.view.loc (c : Thread nD τ) ↦[arg6.view.set]{fullShare} harg6.unread A)
        ∗ (arg7.view.loc (c : Thread nD τ) ↦[arg7.view.set]{fullShare} harg7.unread C)
        ∗ (iprop((arg6.view.loc (c : Thread nD τ) ↦[arg6.view.set]{fullShare} harg6.unread (start z k0_pay10 A))
            ∗ (arg7.view.loc (c : Thread nD τ) ↦[arg7.view.set]{fullShare} harg7.unread (start z k0_pay11 C)))
          -∗ wp frame (wpE (defs₀ (F := F)) Variants.none c none) E (r >>= kk) Q))
      ⊢ wp frame (wpE (defs₀ (F := F)) Variants.none c none) E
        ((if hc : z = 1#1 then (do
          let v305 : Vec F S10128x128 .f32 ← Prog.lift (.load arg6 (Rect.unit (s := S10128x128) ![0, 0] S10128x128.size inb_S10128x128_S10128x128_0_0).toLoadRect (View.loadsAt_vmem h_S10128x128))
          Prog.lift (.store arg6 (Rect.unit (s := S10128x128) ![0, 0] S10128x128.size inb_S10128x128_S10128x128_0_0) (k0_pay10 (F := F)) Finset.univ (View.stores_vmem_bits_univ h_S10128x128 rfl) (.inl rfl))
          let v309 : Vec F S10128x128 .f32 ← Prog.lift (.load arg7 (Rect.unit (s := S10128x128) ![0, 0] S10128x128.size inb_S10128x128_S10128x128_0_0).toLoadRect (View.loadsAt_vmem h_S10128x128))
          Prog.lift (.store arg7 (Rect.unit (s := S10128x128) ![0, 0] S10128x128.size inb_S10128x128_S10128x128_0_0) (k0_pay11 (F := F)) Finset.univ (View.stores_vmem_bits_univ h_S10128x128 rfl) (.inl rfl))
          r) else r) >>= kk) Q := by
  by_cases hz : z = 1#1
  · rw [dif_pos hz]
    unfold start
    rw [if_pos hz, if_pos hz, ← writes_all arg6 harg6 A k0_pay10 _ inb_S10128x128_S10128x128_0_0 zero2,
      ← writes_all arg7 harg7 C k0_pay11 _ inb_S10128x128_S10128x128_0_0 zero2]
    iintro ⟨H6, H7, Hk⟩
    sl_exec
    iapply Hk
    isplitl [H6]
    · iexact H6
    · iexact H7
  · rw [dif_neg hz]
    unfold start
    rw [if_neg hz, if_neg hz]
    iintro ⟨H6, H7, Hk⟩
    iapply Hk
    isplitl [H6]
    · iexact H6
    · iexact H7

/-- What the result's buffer holds after a point: the quotient at the last point, what it held before at the others. -/
def finish (z : BitVec 1) (A C : Vec F S10128x128 .f32) (X : Vec F S10000x128 .f32) : Vec F S10000x128 .f32 :=
  if z = 1#1 then k0_pay9 (top A) (top C) else X

/-- The store of the quotient at the last point. -/
theorem fin_run (c : Dev nD) (arg5 : Memref sig .tc .vmem S10000x128 .f32) (harg5 : arg5.IsWhole)
    (arg6 : Memref sig .tc .vmem S10128x128 .f32) (harg6 : arg6.IsWhole)
    (arg7 : Memref sig .tc .vmem S10128x128 .f32) (harg7 : arg7.IsWhole) (z : BitVec 1) (A C : Vec F S10128x128 .f32)
    (X : Vec F S10000x128 .f32) (E : Set ℕ) (K : PUnit → sProp 𝕄) :
    iprop((arg5.view.loc (c : Thread nD τ) ↦[arg5.view.set]{fullShare} harg5.unread X)
        ∗ (arg6.view.loc (c : Thread nD τ) ↦[arg6.view.set]{fullShare} harg6.unread A)
        ∗ (arg7.view.loc (c : Thread nD τ) ↦[arg7.view.set]{fullShare} harg7.unread C)
        ∗ (iprop((arg5.view.loc (c : Thread nD τ) ↦[arg5.view.set]{fullShare} harg5.unread (finish z A C X))
            ∗ (arg6.view.loc (c : Thread nD τ) ↦[arg6.view.set]{fullShare} harg6.unread A)
            ∗ (arg7.view.loc (c : Thread nD τ) ↦[arg7.view.set]{fullShare} harg7.unread C)) -∗ K ⟨⟩))
      ⊢ wp frame (wpE (defs₀ (F := F)) Variants.none c none) E
        (if hc : z = 1#1 then (do
          let v304 : Vec F S10000x128 .f32 ← Prog.lift (.load arg6 (Rect.unit (s := S10128x128) ![0, 0] S10000x128.size inb_S10128x128_S10000x128_0_0).toLoadRect (View.loadsAt_vmem h_S10000x128))
          let v305 : Vec F S10000x128 .f32 ← Prog.lift (.load arg7 (Rect.unit (s := S10128x128) ![0, 0] S10000x128.size inb_S10128x128_S10000x128_0_0).toLoadRect (View.loadsAt_vmem h_S10000x128))
          let v313 : Vec F S10000x128 .f32 ← Prog.lift (.load arg5 (Rect.unit (s := S10000x128) ![0, 0] S10000x128.size inb_S10000x128_S10000x128_0_0).toLoadRect (View.loadsAt_vmem h_S10000x128))
          Prog.lift (.store arg5 (Rect.unit (s := S10000x128) ![0, 0] S10000x128.size inb_S10000x128_S10000x128_0_0) (k0_pay9 v304 v305) Finset.univ (View.stores_vmem_bits_univ h_S10000x128 rfl) (.inl rfl))
          pure ⟨⟩) else pure ⟨⟩) K := by
  have h6 : arg6.view.readAt (Elt F) (Rect.unit (s := S10128x128) ![0, 0] S10000x128.size inb_S10128x128_S10000x128_0_0).toLoadRect (harg6.unread A) = top A :=
    funext fun y => harg6.readAt_unread _ _ _
  have h7 : arg7.view.readAt (Elt F) (Rect.unit (s := S10128x128) ![0, 0] S10000x128.size inb_S10128x128_S10000x128_0_0).toLoadRect (harg7.unread C) = top C :=
    funext fun y => harg7.readAt_unread _ _ _
  by_cases hz : z = 1#1
  · rw [dif_pos hz]
    unfold finish
    rw [if_pos hz, ← writes_all arg5 harg5 X (k0_pay9 (top A) (top C)) _ inb_S10000x128_S10000x128_0_0 zero2]
    iintro ⟨H5, H6, H7, Hk⟩
    sl_exec
    sl_step
    iapply Hk
    isplitl [H5]
    · iexact H5
    isplitl [H6]
    · iexact H6
    · iexact H7
  · rw [dif_neg hz]
    unfold finish
    rw [if_neg hz]
    iintro ⟨H5, H6, H7, Hk⟩
    sl_step
    iapply Hk
    isplitl [H5]
    · iexact H5
    isplitl [H6]
    · iexact H6
    · iexact H7

/-- The ids of a block of 16000 atoms, as a vector. -/
abbrev blkIds (x1 : Vec F S1x1x16000 .i32) : IVec S16000 32 := k0_pay13 x1

set_option maxHeartbeats 4000000 in
/-- THE BODY AT A POINT: from the block's ids `x1`, features `x2`, the weights `x3` and the bias `x4`, the accumulators go from
`A` and `C` to the sums and counts after the point, and the result's buffer is written at the last point only. -/
theorem point_run (c : Dev nD) (i : grid0.Coords) (arg1 : Memref sig .tc .vmem S1x1x16000 .i32) (harg1 : arg1.IsWhole) (arg2 : Memref sig .tc .vmem S16000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S10128x128 .f32) (harg6 : arg6.IsWhole) (arg7 : Memref sig .tc .vmem S10128x128 .f32) (harg7 : arg7.IsWhole)
    (x1 : Vec F S1x1x16000 .i32) (x2 : Vec F S16000x128 .f32) (x3 : Vec F S128x128 .f32) (x4 : Vec F S1x128 .f32) (x5 : Vec F S10000x128 .f32)
    (A C : Vec F S10128x128 .f32) (hr : ∀ y, (x1 y : BitVec 32).toNat < 10000) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare A ∗ owns (c : Thread nD τ) arg7 fullShare C
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (finish (k0_cond7 i) (accPt (blkIds x1) (k0_pay12 x2 x3 x4) (start (isFirst i) k0_pay10 A)) (cntPt (blkIds x1) (start (isFirst i) k0_pay11 C)) x5)
            ∗ owns (c : Thread nD τ) arg6 fullShare (accPt (blkIds x1) (k0_pay12 x2 x3 x4) (start (isFirst i) k0_pay10 A))
            ∗ owns (c : Thread nD τ) arg7 fullShare (cntPt (blkIds x1) (start (isFirst i) k0_pay11 C))) -∗ K ⟨⟩))
      ⊢ wp frame (wpE (defs₀ (F := F)) Variants.none c none) E (cc0__fused_kernel i arg1 harg1 arg2 harg2 arg3 harg3 arg4 harg4 arg5 harg5 arg6 harg6 arg7 harg7) K := by
  have e1 := readAt_all (F := F) arg1 harg1 x1 ![0, 0, 0] inb_S1x1x16000_S1x1x16000_0_0_0 zero3
  have e2 := readAt_all (F := F) arg2 harg2 x2 ![0, 0] inb_S16000x128_S16000x128_0_0 zero2
  have e3 := readAt_all (F := F) arg3 harg3 x3 ![0, 0] inb_S128x128_S128x128_0_0 zero2
  have e4 := readAt_all (F := F) arg4 harg4 x4 ![0, 0] inb_S1x128_S1x128_0_0 zero2
  have hf : ∀ (s : ℕ) (hs : S16000.Slices ![3200 * s] S3200), (firstId (subIds s hs (blkIds x1))).toNat < 10000 := fun s hs => hr _
  have hl : ∀ (s : ℕ) (hs : S16000.Slices ![3200 * s] S3200), (lastId (subIds s hs (blkIds x1))).toNat < 10000 := fun s hs => hr _
  have c1 : ∀ (s : ℕ) (hs : S16000.Slices ![3200 * s] S3200), k0_chk1 (firstId (subIds s hs (blkIds x1))) := fun s hs => chk1 _ (hf s hs)
  have c2 : ∀ (s : ℕ) (hs : S16000.Slices ![3200 * s] S3200), k0_chk2 (firstId (subIds s hs (blkIds x1))) (lastId (subIds s hs (blkIds x1))) :=
    fun s hs => chk2 _ _ (hf s hs) (hl s hs)
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_open_parts
  iapply (init_bind c arg6 harg6 arg7 harg7 (isFirst i) A C)
  isplitl [H6]; · iexact H6
  isplitl [H7]; · iexact H7
  iintro ⟨H6, H7⟩
  generalize start (isFirst i) k0_pay10 A = A0
  generalize start (isFirst i) k0_pay11 C = C0
  sl_exec (disch := first | exact c1 0 slices_S16000_o0_S3200 | exact c2 0 slices_S16000_o0_S3200)
  iapply (region_bind c arg6 harg6 arg7 harg7 _ _ (hf 0 slices_S16000_o0_S3200) (hl 0 slices_S16000_o0_S3200) (subIds 0 slices_S16000_o0_S3200 (blkIds x1))
    (subH 0 slices_S16000x128_o0_0_S3200x128 (k0_pay12 x2 x3 x4)) A0 C0 (c1 0 slices_S16000_o0_S3200) (c2 0 slices_S16000_o0_S3200) _ _ (fun _ _ _ => rfl))
  isplitl [H6]; · iexact H6
  isplitl [H7]; · iexact H7
  iintro ⟨H6, H7⟩
  generalize hA1 : accSub _ _ _ _ A0 = A1
  generalize hC1 : cntSub _ _ _ C0 = C1
  sl_exec (disch := first | exact c1 1 slices_S16000_o3200_S3200 | exact c2 1 slices_S16000_o3200_S3200)
  iapply (region_bind c arg6 harg6 arg7 harg7 _ _ (hf 1 slices_S16000_o3200_S3200) (hl 1 slices_S16000_o3200_S3200) (subIds 1 slices_S16000_o3200_S3200 (blkIds x1))
    (subH 1 slices_S16000x128_o3200_0_S3200x128 (k0_pay12 x2 x3 x4)) A1 C1 (c1 1 slices_S16000_o3200_S3200) (c2 1 slices_S16000_o3200_S3200) _ _ (fun _ _ _ => rfl))
  isplitl [H6]; · iexact H6
  isplitl [H7]; · iexact H7
  iintro ⟨H6, H7⟩
  generalize hA2 : accSub _ _ _ _ A1 = A2
  generalize hC2 : cntSub _ _ _ C1 = C2
  sl_exec (disch := first | exact c1 2 slices_S16000_o6400_S3200 | exact c2 2 slices_S16000_o6400_S3200)
  iapply (region_bind c arg6 harg6 arg7 harg7 _ _ (hf 2 slices_S16000_o6400_S3200) (hl 2 slices_S16000_o6400_S3200) (subIds 2 slices_S16000_o6400_S3200 (blkIds x1))
    (subH 2 slices_S16000x128_o6400_0_S3200x128 (k0_pay12 x2 x3 x4)) A2 C2 (c1 2 slices_S16000_o6400_S3200) (c2 2 slices_S16000_o6400_S3200) _ _ (fun _ _ _ => rfl))
  isplitl [H6]; · iexact H6
  isplitl [H7]; · iexact H7
  iintro ⟨H6, H7⟩
  generalize hA3 : accSub _ _ _ _ A2 = A3
  generalize hC3 : cntSub _ _ _ C2 = C3
  sl_exec (disch := first | exact c1 3 slices_S16000_o9600_S3200 | exact c2 3 slices_S16000_o9600_S3200)
  iapply (region_bind c arg6 harg6 arg7 harg7 _ _ (hf 3 slices_S16000_o9600_S3200) (hl 3 slices_S16000_o9600_S3200) (subIds 3 slices_S16000_o9600_S3200 (blkIds x1))
    (subH 3 slices_S16000x128_o9600_0_S3200x128 (k0_pay12 x2 x3 x4)) A3 C3 (c1 3 slices_S16000_o9600_S3200) (c2 3 slices_S16000_o9600_S3200) _ _ (fun _ _ _ => rfl))
  isplitl [H6]; · iexact H6
  isplitl [H7]; · iexact H7
  iintro ⟨H6, H7⟩
  generalize hA4 : accSub _ _ _ _ A3 = A4
  generalize hC4 : cntSub _ _ _ C3 = C4
  sl_exec (disch := first | exact c1 4 slices_S16000_o12800_S3200 | exact c2 4 slices_S16000_o12800_S3200)
  iapply (region_run c arg6 harg6 arg7 harg7 _ _ (hf 4 slices_S16000_o12800_S3200) (hl 4 slices_S16000_o12800_S3200) (subIds 4 slices_S16000_o12800_S3200 (blkIds x1))
    (subH 4 slices_S16000x128_o12800_0_S3200x128 (k0_pay12 x2 x3 x4)) A4 C4 (c1 4 slices_S16000_o12800_S3200) (c2 4 slices_S16000_o12800_S3200) _ _ (fun _ _ _ => rfl))
  isplitl [H6]; · iexact H6
  isplitl [H7]; · iexact H7
  iintro ⟨H6, H7⟩
  generalize hA5 : accSub _ _ _ _ A4 = A5
  generalize hC5 : cntSub _ _ _ C4 = C5
  have eA : accPt (blkIds x1) (k0_pay12 x2 x3 x4) A0 = A5 := by
    rw [← hA5, ← hA4, ← hA3, ← hA2, ← hA1]; rfl
  have eC : cntPt (blkIds x1) C0 = C5 := by
    rw [← hC5, ← hC4, ← hC3, ← hC2, ← hC1]; rfl
  rw [eA, eC]
  iapply (fin_run c arg5 harg5 arg6 harg6 arg7 harg7 (k0_cond7 i) A5 C5 x5)
  isplitl [H5]; · iexact H5
  isplitl [H6]; · iexact H6
  isplitl [H7]; · iexact H7
  iintro ⟨H5, H6, H7⟩
  iapply Hk
  isplitl [H1]; · iexists _; isplitr; (ipureintro; exact hf1); iexact H1
  isplitl [H2]; · iexists _; isplitr; (ipureintro; exact hf2); iexact H2
  isplitl [H3]; · iexists _; isplitr; (ipureintro; exact hf3); iexact H3
  isplitl [H4]; · iexists _; isplitr; (ipureintro; exact hf4); iexact H4
  isplitl [H5]; · iexists _; isplitr; (ipureintro; exact harg5.read_unread _); iexact H5
  isplitl [H6]; · iexists _; isplitr; (ipureintro; exact harg6.read_unread _); iexact H6
  iexists _; isplitr; (ipureintro; exact harg7.read_unread _); iexact H7

end Cert.KernelIdeal.Seg
-- ==== Proof.Run.lean ====
module

public import proofs.«01_k».proof.Proof.Point
public import Idealize.ShloMosaic.Lib.Claim

/-!
# The run over the grid

The two accumulators are carried from point to point: `accAt` and `cntAt` are what they hold after a point. `run_main` says what
every run of the program leaves: each argument as it was and in the result the quotient computed from the accumulators after the
last point. It holds in any float semantics, for ids in `[0, 10000)`.
-/

@[expose] public section

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every id of the argument, read as a natural number, is below 10000. -/
def InRange : Prop := ∀ (c : Dev nD) (y : S320000.Idx), (m ((c : Thread nD τ).loc main_arg1) y : BitVec 32).toNat < 10000

/-! ## The scalar conditions of a point -/

/-- The first point is the one at which the body zeroes the accumulators. -/
theorem isFirst_iff : ∀ t : Fin cfg0.N, isFirst (grid0.coords t) = 1#1 ↔ t.val = 0 := by
  show ∀ t : Fin grid0.N, _
  decide

/-- The last point is the one at which the body stores the result. -/
theorem isLast_iff : ∀ t : Fin cfg0.N, k0_cond7 (grid0.coords t) = 1#1 ↔ t.val = 19 := by
  show ∀ t : Fin grid0.N, _
  decide

/-! ## The accumulators after each point -/

/-- The ids of the atoms of a point. -/
abbrev idsAt (c : Dev nD) (t : Fin cfg0.N) : IVec S16000 32 := blkIds (F := F) (iblk m c 0 t)

/-- The hidden features of the atoms of a point. -/
abbrev hidAt (c : Dev nD) (t : Fin cfg0.N) : FVec F S16000x128 .f32 := k0_pay12 (iblk m c 1 t) (iblk m c 2 t) (iblk m c 3 t)

/-- What the accumulator of sums holds after a point. -/
def accAt (c : Dev nD) : (n : ℕ) → n < cfg0.N → Vec F S10128x128 .f32
  | 0, h => accPt (idsAt m c ⟨0, h⟩) (hidAt m c ⟨0, h⟩) k0_pay10
  | n + 1, h => accPt (idsAt m c ⟨n + 1, h⟩) (hidAt m c ⟨n + 1, h⟩) (accAt c n (Nat.lt_of_succ_lt h))

/-- What the accumulator of counts holds after a point. -/
def cntAt (c : Dev nD) : (n : ℕ) → n < cfg0.N → Vec F S10128x128 .f32
  | 0, h => cntPt (idsAt m c ⟨0, h⟩) k0_pay11
  | n + 1, h => cntPt (idsAt m c ⟨n + 1, h⟩) (cntAt c n (Nat.lt_of_succ_lt h))

/-- The whole buffers of the two accumulators. -/
abbrev accM : Memref sig .tc .vmem S10128x128 .f32 := Memref.whole cc0_scratch0
abbrev cntM : Memref sig .tc .vmem S10128x128 .f32 := Memref.whole cc0_scratch1

/-- What the two accumulators hold before a point: anything before the first one, then what the point before left. -/
def carried (c : Dev nD) : (n : ℕ) → n ≤ cfg0.N → sProp 𝕄
  | 0, _ => Pipeline.ΦA spec0 c
  | n + 1, hn => iprop(iprop(owns (c : Thread nD τ) accM fullShare (accAt m c n hn) ∗ owns (c : Thread nD τ) cntM fullShare (cntAt m c n hn)) ∗ (∃ r, prngReg c r))

/-- Before the first point both accumulators hold anything. -/
theorem anything_eq (c : Dev nD) :
    (Pipeline.ΦA spec0 c : sProp 𝕄)
      = iprop(iprop((∃ d, owns (c : Thread nD τ) accM fullShare d) ∗ (∃ d, owns (c : Thread nD τ) cntM fullShare d)) ∗ (∃ r, prngReg c r)) := by
  unfold Pipeline.ΦA; rw [scopedRest0_eq]; simp only [accM, cntM, owns_whole]; try rfl

/-! ## The proof data of the pipeline -/

/-- The arrays as the region finds them; after a point each input's buffer at its block and the result's at the quotient of what
the accumulators then hold (it is written at the last point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay9 (top (accAt m c t.val t.isLt)) (top (cntAt m c t.val t.isLt))
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; exact Pipeline.Dat.Φ_castSucc (carried m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay9 (top (accAt m c t.val t.isLt)) (top (cntAt m c t.val t.isLt)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The ids of a block are in range -/

/-- The reshaped ids, as the region finds them. -/
theorem V_ids (c : Dev nD) : V m c main_call0_v0
    = fun i => m ((c : Thread nD τ).loc main_arg1) (S320000.reshapeEquiv shapeCasts_S320000_S20x1x16000 i) := by
  unfold_abbrev_sides
  after_results
  rfl

/-- Every id of a block comes from the argument, so it is in range with it. -/
theorem block_range (hr : InRange m) (c : Dev nD) (t : Fin cfg0.N) (y : S1x1x16000.Idx) :
    (iblk m c 0 t y : BitVec 32).toNat < 10000 := by
  have e : ∀ i, (V m c main_call0_v0 i : BitVec 32).toNat < 10000 := fun i => by
    rw [V_ids]; exact hr c _
  exact e _

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The result's buffer as the body leaves it: at the last point the quotient, elsewhere what it held. -/
theorem result_left (c : Dev nD) (t : Fin cfg0.N) (d) :
    owns (c : Thread nD τ) (st0_4 t) fullShare (finish (k0_cond7 (grid0.coords t)) (accAt m c t.val t.isLt) (cntAt m c t.val t.isLt) ((dats m 0 c).before 4 t d))
      ⊢ ((dats m 0 c).leavesExact 4 t : sProp 𝕄) := by
  by_cases hl : k0_cond7 (grid0.coords t) = 1#1
  · have hi : cfg0.idle 4 (grid0.coords t) = false := by
      show (!(k0_cond7 (grid0.coords t) == 1#1)) = false
      rw [hl]; rfl
    rw [show (dats m 0 c).leavesExact 4 t = owns (c : Thread nD τ) (st0_4 t) fullShare ((dats m 0 c).after 4 t) from by
      unfold Dat.leavesExact; rw [hi], after_4, finish, if_pos hl]
  · have hi : cfg0.idle 4 (cfg0.grid.coords t) = true := by
      show (!(k0_cond7 (grid0.coords t) == 1#1)) = true
      rw [beq_eq_false_iff_ne.mpr hl]; rfl
    have hf : (cfg0.win 4).flush t = false := by
      rw [Bool.eq_false_iff]
      intro h
      have := (flush0_4 t).mp h
      have hN : t.val < 20 := lt_of_lt_of_eq t.isLt (show cfg0.N = 20 from N_0)
      exact hl ((isLast_iff t).mpr (by omega))
    rw [(dats m 0 c).leavesExact_idle 4 t hi hf, finish, if_neg hl]
    iintro H
    iexists d
    iexact H

set_option maxHeartbeats 1600000 in
/-- The body at a point, from any contents of the accumulators that give the ones after it. -/
theorem sound_from (hr : InRange m) (c : Dev nD) (t : Fin cfg0.N) (A C : Vec F S10128x128 .f32)
    (hA : accPt (idsAt m c t) (hidAt m c t) (start (isFirst (grid0.coords t)) k0_pay10 A) = accAt m c t.val t.isLt)
    (hC : cntPt (idsAt m c t) (start (isFirst (grid0.coords t)) k0_pay11 C) = cntAt m c t.val t.isLt) :
    iprop((iprop(owns (c : Thread nD τ) accM fullShare A ∗ owns (c : Thread nD τ) cntM fullShare C) ∗ (∃ r, prngReg c r)) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
      ⊢ wp frame (wpE (defs₀ (F := F)) Variants.none c none) Set.univ (bodyAt0 t) (fun _ => bodyPost m c t) := by
  unfold bodyPost bodyAt0
  simp only [before_0, before_1, before_2, before_3]
  rw [show (dats m 0 c).owesAt () t.succ = (dats m 0 c).owesAt () t.castSucc from rfl,
    show (dats m 0 c).Φ t.succ = carried m c (t.val + 1) t.isLt from rfl, carried,
    show (dats m 0 c).leavesExact 0 t = owns (c : Thread nD τ) (st0_0 t) fullShare (iblk m c 0 t) from (after_0 m c t) ▸ rfl,
    show (dats m 0 c).leavesExact 1 t = owns (c : Thread nD τ) (st0_1 t) fullShare (iblk m c 1 t) from (after_1 m c t) ▸ rfl,
    show (dats m 0 c).leavesExact 2 t = owns (c : Thread nD τ) (st0_2 t) fullShare (iblk m c 2 t) from (after_2 m c t) ▸ rfl,
    show (dats m 0 c).leavesExact 3 t = owns (c : Thread nD τ) (st0_3 t) fullShare (iblk m c 3 t) from (after_3 m c t) ▸ rfl]
  iintro ⟨⟨⟨HA, HC⟩, Hg⟩, Ho, ⟨%d0, H0⟩, ⟨%d1, H1⟩, ⟨%d2, H2⟩, ⟨%d3, H3⟩, ⟨%d4, H4⟩⟩
  iapply (point_run c (grid0.coords t) _ _ _ _ _ _ _ _ _ _ _ _ _ _ (iblk m c 0 t) (iblk m c 1 t) (iblk m c 2 t) (iblk m c 3 t) ((dats m 0 c).before 4 t d4) A C
    (block_range m hr c t) Set.univ _)
  isplitl [H0]; · iexact H0
  isplitl [H1]; · iexact H1
  isplitl [H2]; · iexact H2
  isplitl [H3]; · iexact H3
  isplitl [H4]; · iexact H4
  isplitl [HA]; · iexact HA
  isplitl [HC]; · iexact HC
  rw [hA, hC]
  iintro ⟨H0, H1, H2, H3, H4, HA, HC⟩
  isplitl [HA HC Hg]
  · isplitl [HA HC]
    · isplitl [HA]; · iexact HA
      iexact HC
    iexact Hg
  isplitl [Ho]; · iexact Ho
  isplitl [H0]; · iexact H0
  isplitl [H1]; · iexact H1
  isplitl [H2]; · iexact H2
  isplitl [H3]; · iexact H3
  iapply (result_left m c t d4)
  iexact H4

/-- The body at any point. -/
theorem sound_body (hr : InRange m) (c : Dev nD) (t : Fin cfg0.N) :
    bodyPre m c t ⊢ wp frame (wpE (defs₀ (F := F)) Variants.none c none) Set.univ (bodyAt0 t) (fun _ => bodyPost m c t) := by
  unfold bodyPre
  rw [carried_castSucc m c t]
  obtain ⟨n, hn⟩ := t
  cases n with
  | zero =>
    rw [carried, anything_eq]
    iintro ⟨⟨⟨⟨%A, HA⟩, ⟨%C, HC⟩⟩, Hg⟩, H⟩
    iapply (sound_from m hr c ⟨0, hn⟩ A C (by rw [start, if_pos ((isFirst_iff ⟨0, hn⟩).mpr rfl)]; rfl)
      (by rw [start, if_pos ((isFirst_iff ⟨0, hn⟩).mpr rfl)]; rfl))
    isplitl [HA HC Hg]
    · isplitl [HA HC]
      · isplitl [HA]; · iexact HA
        iexact HC
      iexact Hg
    iexact H
  | succ n =>
    rw [carried]
    exact sound_from m hr c ⟨n + 1, hn⟩ _ _ (by rw [start, if_neg (fun h => Nat.succ_ne_zero n ((isFirst_iff ⟨n + 1, hn⟩).mp h))]; rfl)
      (by rw [start, if_neg (fun h => Nat.succ_ne_zero n ((isFirst_iff ⟨n + 1, hn⟩).mp h))]; rfl)

theorem defs₀_row (c : Dev nD) (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (hr : InRange m) (c : Dev nD) : BodyObligation (dats (F := F) m 0 c) (defs₀ (F := F)) Variants.none () Set.univ := fun t => by
  rw [bigSep_W0, bigSep_W0, defs₀_row c t]
  exact triple_restated (sound_body m hr c t) rfl .rfl fun _ => .rfl

theorem hin (c : Dev nD) : Pipeline.ΦA spec0 c ⊢ (dats m 0 c).Φ 0 := by
  rw [show (dats m 0 c).Φ 0 = carried m c 0 (Nat.zero_le _) from rfl, carried]

theorem hout (c : Dev nD) : (dats m 0 c).Φ (Fin.last cfg0.N) ⊢ Pipeline.ΦA spec0 c := by
  rw [show (dats m 0 c).Φ (Fin.last cfg0.N) = carried m c (19 + 1) (by decide) from rfl, carried, anything_eq]
  iintro ⟨⟨HA, HC⟩, Hg⟩
  isplitl [HA HC]
  · isplitl [HA]
    · iexists _; iexact HA
    iexists _; iexact HC
  iexact Hg

/-! ## The run and the frame -/

set_option backward.isDefEq.respectTransparency.types false in
/-- Every run ends, with every array of the pipeline as the proof data say and every semaphore at zero. -/
theorem run_main (hr : InRange m) : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m hr c).loose) (hshare := fun c => (dats m 0 c).share_full fun _ => rfl)
    (howed := fun _ _ => rfl) (V := V m) (hmain := hmain m Variants.none) (hA := A_eq m) (hin := hin m) (hout := hout m)

/-- The frame: every run ends with the arguments as they were and every semaphore at zero. -/
theorem frame_main (hr : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ hr)))
    ((θ_run defs _ _).mono (fun _ h => h.2) (run_main m ρ hr))

end Cert.KernelIdeal.Seg
-- ==== Proof.Transfer.lean ====
module

public import proofs.«01_k».proof.Defs
public import proofs.«01_k».proof.Proof.Gen.Kernel
public import proofs.«01_k».proof.Proof.Run

/-!
# The printed kernel's frame
-/

@[expose] public section

set_option maxRecDepth 16384

noncomputable section

namespace Cert.KernelIdeal.Seg

open Idealize.ShloMosaic Idealize.ShloMosaic.TcCoe Idealize.SL.Sem

set_option smartUnfolding false in
/-- The frame of the kernel as printed, in any float semantics. -/
theorem frame_printed {F : FTy → Type} [FloatOps F] (m : (ℓ : Loc Cert.Kernel.nD Cert.Kernel.τ Cert.Kernel.sig) → Buf (Elt F) ℓ) (g : Dev Cert.Kernel.nD → PrngReg)
    (hr : ∀ (c : Dev Cert.Kernel.nD) (y : Cert.Kernel.S320000.Idx), (m ((c.tc : Thread Cert.Kernel.nD Cert.Kernel.τ).loc Cert.Kernel.main_arg1) y : BitVec 32).toNat < 10000) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  frame_main (F := F) m g hr

end Cert.KernelIdeal.Seg
-- ==== Proof.Frames.lean ====
module

public import proofs.«01_k».proof.Proof.Range
public import proofs.«01_k».proof.Proof.Transfer
public import proofs.«01_k».proof.Proof.Gen.ReferenceIdeal.Run
public import Idealize.ShloMosaic.Lib.Quiescent

/-!
# The frames

Every run of the kernel as printed, of its idealization and of the reference ends with the arguments as they were.
-/

@[expose] public section

set_option maxRecDepth 16384

noncomputable section

namespace Cert.KernelIdeal.Seg

open Idealize.ShloMosaic Idealize.ShloMosaic.TcCoe Idealize.SL.Sem

/-- The frame of the kernel as printed. -/
theorem frame_kernel : Cert.quiescent_Kernel := fun m g h =>
  frame_printed m g fun c y => bound_of_range _ _ _ _ (h c) y

/-- The frame of its idealization, the ids in range. -/
theorem frame_ideal : Cert.quiescent_KernelIdeal := fun m g h =>
  frame_main m g fun c y => bound_of_range _ _ _ _ (h c) y

/-- The frame of its idealization, the ids sorted besides. -/
theorem frame_ideal_sorted : Cert.quiescent_KernelIdeal_pre_ids_sorted_in_range := fun m g h =>
  frame_main m g fun c y => bound_of_sorted _ _ _ _ (h c) y

/-- The frame of the reference, from any memory: it declares no semaphore. -/
theorem frame_reference_any (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems rfl r.2⟩) (Cert.ReferenceIdeal.Value.run m g)

/-- The frame of the reference. -/
theorem frame_reference : Cert.quiescent_ReferenceIdeal := fun m g _ => frame_reference_any m g

/-- The frame of the reference, the ids sorted and in range. -/
theorem frame_reference_sorted : Cert.quiescent_ReferenceIdeal_pre_ids_sorted_in_range := fun m g _ => frame_reference_any m g

end Cert.KernelIdeal.Seg
-- ==== Proof.ChunkSum.lean ====
module

public import proofs.«01_k».proof.Proof.Model
public import Idealize.ShloMosaic.Lib.Pointwise
public import Idealize.ShloMosaic.Lib.MatmulPlain
public import Idealize.ShloMosaic.Lib.IdealHost
public import Idealize.ShloMosaic.PureOps.Ideal

/-!
# A chunk adds sums over its atoms

In exact arithmetic a chunk adds, to each of the rows it works on, the sum of the activations (or the number) of the atoms whose id
is that row, and leaves the other rows. `rowSum` is such a sum over the atoms of a sub-block, whatever is summed.
-/

@[expose] public section

set_option maxRecDepth 16384

noncomputable section

namespace Cert.KernelIdeal.Seg

open Idealize.ShloMosaic Cert.KernelIdeal Cert.KernelIdeal.Gen

/-- The sum of `g` over the atoms of a sub-block whose id is `ρ`. -/
def rowSum (ids : IVec S3200 32) (g : Fin 3200 → EReal) (ρ : ℕ) : EReal :=
  ∑ a : Fin 3200, if (ids (ix1 a)).toNat = ρ then g a else 0

/-- A row that is no atom's id has the empty sum. -/
theorem rowSum_zero (ids : IVec S3200 32) (g : Fin 3200 → EReal) (ρ : ℕ) (h : ∀ a, (ids (ix1 a)).toNat ≠ ρ) : rowSum ids g ρ = 0 :=
  Finset.sum_eq_zero fun a _ => if_neg (h a)

/-- The comparison bit, as a number, is one where the id is the row and zero elsewhere. -/
theorem hot_at (ids : IVec S3200 32) (b : BitVec 32) (hb : b.toNat ≤ 100000) (r : Fin 128) (a : Fin 3200) :
    hot (F := Ideal) ids b (ix2 r a) = if (ids (ix1 a)).toNat = b.toNat + r then 1 else 0 := by
  pointwise [hot]
  have hr := r.isLt
  have hx := (ids (ix1 a)).isLt
  have e : (IntOp.subi (ids (ix1 a)) b = BitVec.ofNat 32 r) ↔ (ids (ix1 a)).toNat = b.toNat + r := by
    rw [← BitVec.toNat_inj]
    simp only [IntOp.subi, BitVec.toNat_sub, BitVec.toNat_ofNat]
    omega
  show (((BitVec.setWidth 32 (BitVec.ofBool (IntOp.subi (ids (ix1 a)) b == BitVec.ofNat 32 r))).toInt : ℝ) : EReal) = _
  by_cases h : (ids (ix1 a)).toNat = b.toNat + r
  · rw [if_pos h, e.mpr h, beq_self_eq_true, show (BitVec.setWidth 32 (BitVec.ofBool true)).toInt = 1 from by decide, Int.cast_one, EReal.coe_one]
  · rw [if_neg h, beq_eq_false_iff_ne.mpr (fun h' => h (e.mp h')),
      show (BitVec.setWidth 32 (BitVec.ofBool false)).toInt = 0 from by decide, Int.cast_zero, EReal.coe_zero]

/-- The activations a chunk adds to one of its rows. -/
theorem accPay_at (ids : IVec S3200 32) (h : FVec Ideal S3200x128 .f32) (b : BitVec 32) (hb : b.toNat ≤ 100000) (X : Vec Ideal S128x128 .f32) (r c : Fin 128) :
    accPay ids h b X (ix2 r c) = X (ix2 r c) + rowSum ids (fun a => h (ix2 a c)) (b.toNat + r) := by
  pointwise [accPay]
  unfold rowSum
  refine congrArg (X (ix2 r c) + ·) (Finset.sum_congr rfl fun a _ => ?_)
  rw [hot_at ids b hb]
  split
  · exact one_mul _
  · exact zero_mul _

/-- The number of atoms a chunk adds to one of its rows. -/
theorem cntPay_at (ids : IVec S3200 32) (b : BitVec 32) (hb : b.toNat ≤ 100000) (X : Vec Ideal S128x128 .f32) (r c : Fin 128) :
    cntPay ids b X (ix2 r c) = X (ix2 r c) + rowSum ids (fun _ => 1) (b.toNat + r) := by
  pointwise [cntPay]
  unfold rowSum
  exact congrArg (X (ix2 r c) + ·) (Finset.sum_congr rfl fun a _ => hot_at ids b hb r a)

/-- Replacing the 128 rows from row `o` by a payload that adds `S` to each leaves every element with `S` of its row added, if the
row is one of them. -/
theorem bump_at (o : ℕ) (ho : o ≤ 10000) (P : Vec Ideal S128x128 .f32 → Vec Ideal S128x128 .f32) (S : ℕ → Fin 128 → EReal)
    (hP : ∀ X (r c : Fin 128), P X (ix2 r c) = X (ix2 r c) + S (o + r) c) (A : Vec Ideal S10128x128 .f32) (ρ : Fin 10128) (c : Fin 128) :
    bump o P A (ix2 ρ c) = A (ix2 ρ c) + if o ≤ ρ.val ∧ ρ.val < o + 128 then S ρ c else 0 := by
  by_cases h : o ≤ ρ.val ∧ ρ.val < o + 128
  · have e : (ix2 ρ c : S10128x128.Idx) = (rows o).emb (ix2 (⟨ρ.val - o, by omega⟩ : Fin 128) c : S128x128.Idx) := by
      funext x
      apply Fin.ext
      fin_cases x
      · show ρ.val = min o 10000 + 1 * (ρ.val - o)
        omega
      · show c.val = 0 + 1 * c.val
        omega
    rw [if_pos h, e, bump_emb, hP]
    congr 2
    show o + (ρ.val - o) = ρ.val
    omega
  · rw [if_neg h, add_zero]
    apply bump_miss
    intro z hz
    have e : min o 10000 + 1 * (z 0).val = ρ.val := congrArg Fin.val (congrFun hz 0)
    have := (z 0).isLt
    have : (z 0).val < 128 := (z 0).isLt
    omega

end Cert.KernelIdeal.Seg
-- ==== Proof.PointSum.lean ====
module

public import proofs.«01_k».proof.Proof.ChunkSum

/-!
# A point adds sums over its atoms

The ids of a sub-block never decrease, so all of them lie among the rows of its chunks; the chunks' rows are disjoint, so the
sub-block adds to every row the sum over the atoms with that id, once. A point adds the sums of its five sub-blocks, which are the
sum over its 16000 atoms.
-/

@[expose] public section

set_option maxRecDepth 16384

noncomputable section

namespace Cert.KernelIdeal.Seg

open Idealize.ShloMosaic Cert.KernelIdeal Cert.KernelIdeal.Gen

/-- The chunks of a sub-block with first id `a` and last id `l` reach beyond the last id. -/
theorem chunks_reach (a l : BitVec 32) (ha : a.toNat < 10000) (hl : l.toNat < 10000) (h : a.toNat ≤ l.toNat) :
    l.toNat < a.toNat / 8 * 8 + 128 * (1 + later a l) := by
  have hs := toInt_span a l ha hl
  have hn := toInt_nch_pos a l (by omega)
  unfold later
  split
  · rw [trips_eq]
    omega
  · rename_i hc
    rw [cond_iff] at hc
    omega

/-- The chunks together add `S` of its row to every element in their rows; with `S` zero elsewhere, to every element. -/
theorem chunks_at (P : BitVec 32 → Vec Ideal S128x128 .f32 → Vec Ideal S128x128 .f32) (S : ℕ → Fin 128 → EReal)
    (hP : ∀ b : BitVec 32, b.toNat ≤ 100000 → ∀ X (r c : Fin 128), P b X (ix2 r c) = X (ix2 r c) + S (b.toNat + r) c)
    (a l : BitVec 32) (ha : a.toNat < 10000) (hl : l.toNat < 10000)
    (A : Vec Ideal S10128x128 .f32) (ρ : Fin 10128) (c : Fin 128)
    (h0 : ¬ (a.toNat / 8 * 8 ≤ ρ.val ∧ ρ.val < a.toNat / 8 * 8 + 128 * (1 + later a l)) → S ρ c = 0) :
    iter (fun k => bump (baseAt a k).toNat (P (baseAt a k))) (later a l)
      (bump (Scalar.addi (base a) 0#32).toNat (P (Scalar.addi (base a) 0#32)) A) (ix2 ρ c) = A (ix2 ρ c) + S ρ c := by
  have hb : (Scalar.addi (base a) 0#32).toNat = a.toNat / 8 * 8 := by
    simp only [Scalar.addi, IntOp.addi, BitVec.add_zero, toNat_base]
  have key : ∀ n ≤ later a l, iter (fun k => bump (baseAt a k).toNat (P (baseAt a k))) n
      (bump (Scalar.addi (base a) 0#32).toNat (P (Scalar.addi (base a) 0#32)) A) (ix2 ρ c)
        = A (ix2 ρ c) + if a.toNat / 8 * 8 ≤ ρ.val ∧ ρ.val < a.toNat / 8 * 8 + 128 * (1 + n) then S ρ c else 0 := by
    intro n
    induction n with
    | zero =>
      intro _
      show bump _ _ _ _ = _
      rw [bump_at _ (by omega) _ S (hP _ (by omega)), hb]
    | succ n ih =>
      intro hn
      have hk : n < 10000 ∧ a.toNat / 8 * 8 + 128 * (1 + n) ≤ 10000 := by
        unfold later at hn
        split at hn
        · rename_i hc
          exact baseAt_le a l ha hl hc n (by omega)
        · omega
      have e := toNat_baseAt a n ha hk.1
      show bump _ _ _ _ = _
      rw [bump_at _ (by omega) _ S (hP _ (by omega)), ih (by omega), e, add_assoc]
      congr 1
      by_cases h1 : a.toNat / 8 * 8 ≤ ρ.val ∧ ρ.val < a.toNat / 8 * 8 + 128 * (1 + n)
      · rw [if_pos h1, if_neg (by omega), if_pos (by omega), add_zero]
      · rw [if_neg h1, zero_add]
        congr 1
        apply propext
        omega
  rw [key _ le_rfl]
  split
  · rfl
  · rename_i h
    rw [h0 h]

theorem firstId_eq (ids : IVec S3200 32) : firstId ids = ids (ix1 ⟨0, by decide⟩) := by
  unfold firstId extractAt extractStridedSlice
  congr 1
  funext x
  fin_cases x
  rfl

theorem lastId_eq (ids : IVec S3200 32) : lastId ids = ids (ix1 ⟨3199, by decide⟩) := by
  unfold lastId extractAt extractStridedSlice
  congr 1
  funext x
  fin_cases x
  rfl

/-- The ids of a sub-block are in range and never decrease. -/
structure Sorted {n : ℕ} (ids : IVec (⟨1, ![n]⟩ : Shape) 32) : Prop where
  lt : ∀ a : Fin n, (ids (ix1 a)).toNat < 10000
  mono : ∀ a b : Fin n, a ≤ b → (ids (ix1 a)).toNat ≤ (ids (ix1 b)).toNat

/-- A row outside the chunks is no atom's id. -/
theorem outside (ids : IVec S3200 32) (hs : Sorted (n := 3200) ids) (g : Fin 3200 → EReal) (ρ : ℕ)
    (h : ¬ ((firstId ids).toNat / 8 * 8 ≤ ρ ∧ ρ < (firstId ids).toNat / 8 * 8 + 128 * (1 + later (firstId ids) (lastId ids)))) :
    rowSum ids g ρ = 0 := by
  apply rowSum_zero
  intro a e
  have h0 := hs.mono ⟨0, by decide⟩ a (Nat.zero_le _)
  have h1 := hs.mono a ⟨3199, by decide⟩ (by have := a.isLt; show a.val ≤ 3199; omega)
  have hf := hs.lt ⟨0, by decide⟩
  have hl := hs.lt ⟨3199, by decide⟩
  rw [← firstId_eq ids] at h0 hf
  rw [← lastId_eq ids] at h1 hl
  have := chunks_reach _ _ hf hl (h0.trans h1)
  omega

/-- The sums after a sub-block. -/
theorem accS_at (ids : IVec S3200 32) (hs : Sorted (n := 3200) ids) (h : FVec Ideal S3200x128 .f32) (A : Vec Ideal S10128x128 .f32)
    (ρ : Fin 10128) (c : Fin 128) :
    accS ids h A (ix2 ρ c) = A (ix2 ρ c) + rowSum ids (fun a => h (ix2 a c)) ρ :=
  chunks_at (accPay ids h) (fun ρ c => rowSum ids (fun a => h (ix2 a c)) ρ) (fun b hb => accPay_at ids h b hb) _ _
    (by rw [firstId_eq]; exact hs.lt _) (by rw [lastId_eq]; exact hs.lt _) A ρ c (outside ids hs _ _)

/-- The counts after a sub-block. -/
theorem cntS_at (ids : IVec S3200 32) (hs : Sorted (n := 3200) ids) (C : Vec Ideal S10128x128 .f32) (ρ : Fin 10128) (c : Fin 128) :
    cntS ids C (ix2 ρ c) = C (ix2 ρ c) + rowSum ids (fun _ => 1) ρ :=
  chunks_at (cntPay ids) (fun ρ _ => rowSum ids (fun _ => 1) ρ) (fun b hb => cntPay_at ids b hb) _ _
    (by rw [firstId_eq]; exact hs.lt _) (by rw [lastId_eq]; exact hs.lt _) C ρ c (outside ids hs _ _)

/-! ## A point -/

theorem subIds_at (s : ℕ) (hs : S16000.Slices ![3200 * s] S3200) (h5 : s < 5) (v : IVec S16000 32) (a : Fin 3200) :
    subIds s hs v (ix1 a) = v (ix1 ⟨3200 * s + a, by have := a.isLt; omega⟩) := by
  unfold subIds extractStridedSlice
  congr 1
  funext x
  fin_cases x
  rfl

theorem subH_at (s : ℕ) (hs : S16000x128.Slices ![3200 * s, 0] S3200x128) (h5 : s < 5) (v : FVec Ideal S16000x128 .f32) (a : Fin 3200) (c : Fin 128) :
    subH s hs v (ix2 a c) = v (ix2 ⟨3200 * s + a, by have := a.isLt; omega⟩ c) := by
  unfold subH extractStridedSlice
  congr 1
  funext x
  fin_cases x
  · rfl
  · apply Fin.ext
    show 0 + c.val = c.val
    omega

theorem sorted_sub (s : ℕ) (hs : S16000.Slices ![3200 * s] S3200) (h5 : s < 5) (v : IVec S16000 32) (hv : Sorted (n := 16000) v) :
    Sorted (n := 3200) (subIds s hs v) where
  lt a := by rw [subIds_at s hs h5]; exact hv.lt _
  mono a b hab := by
    rw [subIds_at s hs h5, subIds_at s hs h5]
    exact hv.mono _ _ (by show 3200 * s + a.val ≤ 3200 * s + b.val; have : a.val ≤ b.val := hab; omega)

/-- The sum over a sub-block's atoms with id `ρ`, as a part of a sum over the block's atoms. -/
theorem rowSum_sub (s : ℕ) (hs : S16000.Slices ![3200 * s] S3200) (h5 : s < 5) (v : IVec S16000 32) (g : Fin 3200 → EReal) (ρ : ℕ)
    (G : ℕ → EReal) (hG : ∀ a : Fin 3200, G (3200 * s + a) = if (v (ix1 ⟨3200 * s + a, by have := a.isLt; omega⟩)).toNat = ρ then g a else 0) :
    rowSum (subIds s hs v) g ρ = ∑ x ∈ Finset.range 3200, G (3200 * s + x) := by
  rw [← Fin.sum_univ_eq_sum_range (fun x => G (3200 * s + x))]
  exact Finset.sum_congr rfl fun a _ => by rw [hG a, subIds_at s hs h5]

/-- Five consecutive sums are one. -/
theorem five (G : ℕ → EReal) (A : EReal) :
    A + ∑ x ∈ Finset.range 3200, G (3200 * 0 + x) + ∑ x ∈ Finset.range 3200, G (3200 * 1 + x) + ∑ x ∈ Finset.range 3200, G (3200 * 2 + x)
      + ∑ x ∈ Finset.range 3200, G (3200 * 3 + x) + ∑ x ∈ Finset.range 3200, G (3200 * 4 + x) = A + ∑ x ∈ Finset.range 16000, G x := by
  rw [show (16000 : ℕ) = 3200 + 3200 + 3200 + 3200 + 3200 from rfl, Finset.sum_range_add, Finset.sum_range_add, Finset.sum_range_add,
    Finset.sum_range_add]
  simp only [Nat.mul_zero, Nat.zero_add, add_assoc]
  rfl

/-- The sums after a point. -/
theorem accPt_at (v : IVec S16000 32) (hv : Sorted (n := 16000) v) (h : FVec Ideal S16000x128 .f32) (A : Vec Ideal S10128x128 .f32)
    (ρ : Fin 10128) (c : Fin 128) (G : ℕ → EReal) (hG : ∀ a : Fin 16000, G a = if (v (ix1 a)).toNat = ρ then h (ix2 a c) else 0) :
    accPt v h A (ix2 ρ c) = A (ix2 ρ c) + ∑ x ∈ Finset.range 16000, G x := by
  have e : ∀ (s : ℕ) (hs : S16000.Slices ![3200 * s] S3200) (hh : S16000x128.Slices ![3200 * s, 0] S3200x128) (_ : s < 5),
      rowSum (subIds s hs v) (fun a => subH s hh h (ix2 a c)) ρ = ∑ x ∈ Finset.range 3200, G (3200 * s + x) := fun s hs hh h5 =>
    rowSum_sub s hs h5 v _ ρ G fun a => by
      have := hG ⟨3200 * s + a, by have := a.isLt; omega⟩
      rw [subH_at s hh h5]
      exact this
  unfold accPt
  rw [accS_at _ (sorted_sub 4 slices_S16000_o12800_S3200 (by decide) v hv), accS_at _ (sorted_sub 3 slices_S16000_o9600_S3200 (by decide) v hv), accS_at _ (sorted_sub 2 slices_S16000_o6400_S3200 (by decide) v hv),
    accS_at _ (sorted_sub 1 slices_S16000_o3200_S3200 (by decide) v hv), accS_at _ (sorted_sub 0 slices_S16000_o0_S3200 (by decide) v hv),
    e 0 slices_S16000_o0_S3200 slices_S16000x128_o0_0_S3200x128 (by decide), e 1 slices_S16000_o3200_S3200 slices_S16000x128_o3200_0_S3200x128 (by decide), e 2 slices_S16000_o6400_S3200 slices_S16000x128_o6400_0_S3200x128 (by decide), e 3 slices_S16000_o9600_S3200 slices_S16000x128_o9600_0_S3200x128 (by decide), e 4 slices_S16000_o12800_S3200 slices_S16000x128_o12800_0_S3200x128 (by decide)]
  exact five G _

/-- The counts after a point. -/
theorem cntPt_at (v : IVec S16000 32) (hv : Sorted (n := 16000) v) (C : Vec Ideal S10128x128 .f32)
    (ρ : Fin 10128) (c : Fin 128) (G : ℕ → EReal) (hG : ∀ a : Fin 16000, G a = if (v (ix1 a)).toNat = ρ then 1 else 0) :
    cntPt v C (ix2 ρ c) = C (ix2 ρ c) + ∑ x ∈ Finset.range 16000, G x := by
  have e : ∀ (s : ℕ) (hs : S16000.Slices ![3200 * s] S3200) (_ : s < 5),
      rowSum (subIds s hs v) (fun _ => 1) ρ = ∑ x ∈ Finset.range 3200, G (3200 * s + x) := fun s hs h5 =>
    rowSum_sub s hs h5 v _ ρ G fun a => hG ⟨3200 * s + a, by have := a.isLt; omega⟩
  unfold cntPt
  rw [cntS_at _ (sorted_sub 4 slices_S16000_o12800_S3200 (by decide) v hv), cntS_at _ (sorted_sub 3 slices_S16000_o9600_S3200 (by decide) v hv), cntS_at _ (sorted_sub 2 slices_S16000_o6400_S3200 (by decide) v hv),
    cntS_at _ (sorted_sub 1 slices_S16000_o3200_S3200 (by decide) v hv), cntS_at _ (sorted_sub 0 slices_S16000_o0_S3200 (by decide) v hv),
    e 0 slices_S16000_o0_S3200 (by decide), e 1 slices_S16000_o3200_S3200 (by decide), e 2 slices_S16000_o6400_S3200 (by decide), e 3 slices_S16000_o9600_S3200 (by decide), e 4 slices_S16000_o12800_S3200 (by decide)]
  exact five G _

end Cert.KernelIdeal.Seg
-- ==== Proof.Blocks.lean ====
module

public import proofs.«01_k».proof.Proof.Run
public import proofs.«01_k».proof.Proof.PointSum
public import Idealize.ShloMosaic.Lib.Pipeline.ValueKit

/-!
# The blocks of a point, read at an index

Point `t` works on the atoms `16000 t … 16000 t + 15999`; the weights and the bias are the same at every point.
-/

@[expose] public section

set_option maxRecDepth 16384

noncomputable section

namespace Cert.KernelIdeal.Seg

open Idealize.ShloMosaic Idealize.ShloMosaic.TcCoe Idealize.SL.Sem
open Cert.KernelIdeal Cert.KernelIdeal.Gen

variable (m : (ℓ : Loc nD τ sig) → Buf (Elt Ideal) ℓ)

/-- The four arguments on a device. -/
abbrev argF (c : Dev nD) : FVec Ideal S320000x128 .f32 := m ((c : Thread nD τ).loc main_arg0)
abbrev argS (c : Dev nD) : IVec S320000 32 := m ((c : Thread nD τ).loc main_arg1)
abbrev argW (c : Dev nD) : FVec Ideal S128x128 .f32 := m ((c : Thread nD τ).loc main_arg2)
abbrev argB (c : Dev nD) : FVec Ideal S128 .f32 := m ((c : Thread nD τ).loc main_arg3)

/-- The weights as the region finds them are the argument transposed, -/
theorem V_w (c : Dev nD) (k j : Fin 128) : V m c main_call0_v1 (ix2 k j) = argW m c (ix2 j k) := by
  have e : V m c main_call0_v1 = transpose S128x128 [1, 0] (argW m c) transposes_S128x128_S128x128_1_0 := by
    unfold_abbrev_sides
    after_results
    rfl
  rw [e]
  pointwise

/-- the bias is the argument as a row, -/
theorem V_b (c : Dev nD) (z : Fin 1) (j : Fin 128) : V m c main_call0_v2 (ix2 z j) = argB m c (ix1 j) := by
  have e : V m c main_call0_v2 = shapeCast S1x128 (argB m c) shapeCasts_S128_S1x128 := by
    unfold_abbrev_sides
    after_results
    rfl
  rw [e]
  pointwise

/-- and the ids are cut into 20 rows of 16000. -/
theorem V_s (c : Dev nD) (t : Fin 20) (z : Fin 1) (a : Fin 16000) :
    V m c main_call0_v0 (ix3 t z a) = argS m c (ix1 ⟨16000 * t.val + a.val, by have := t.isLt; have := a.isLt; omega⟩) := by
  have e : V m c main_call0_v0 = shapeCast S20x1x16000 (argS m c) shapeCasts_S320000_S20x1x16000 := by
    unfold_abbrev_sides
    after_results
    rfl
  rw [e]
  pointwise
  exact congrArg (fun n => argS m c (ix1 n)) (Fin.ext (by show t.val * 16000 + a.val = 16000 * t.val + a.val; omega))

/-! The number of the block that each window reads at a point. -/

theorem idx0 : ∀ t : Fin cfg0.N, win0_0.index t = ![t.val, 0, 0] := by
  show ∀ t : Fin grid0.N, _
  decide
theorem idx1 : ∀ t : Fin cfg0.N, win0_1.index t = ![t.val, 0] := by
  show ∀ t : Fin grid0.N, _
  decide
theorem idx2 : ∀ t : Fin cfg0.N, win0_2.index t = ![0, 0] := by
  show ∀ t : Fin grid0.N, _
  decide
theorem idx3 : ∀ t : Fin cfg0.N, win0_3.index t = ![0, 0] := by
  show ∀ t : Fin grid0.N, _
  decide

/-! The blocks themselves. -/

theorem blk0_at (c : Dev nD) (t : Fin cfg0.N) (a : Fin 16000) :
    iblk m c 0 t (ix3 0 0 a) = V m c main_call0_v0 (ix3 ⟨t.val, lt_of_lt_of_eq t.isLt N_0⟩ 0 a) := by
  blk_ext [iblk, idx0 t]

theorem blk1_at (c : Dev nD) (t : Fin cfg0.N) (a : Fin 16000) (k : Fin 128) :
    iblk m c 1 t (ix2 a k) = V m c main_arg0 (ix2 ⟨16000 * t.val + a.val, by have := lt_of_lt_of_eq t.isLt N_0; have := a.isLt; omega⟩ k) := by
  blk_ext [iblk, idx1 t]

theorem blk2_at (c : Dev nD) (t : Fin cfg0.N) (k j : Fin 128) :
    iblk m c 2 t (ix2 k j) = V m c main_call0_v1 (ix2 k j) := by
  blk_ext [iblk, idx2 t]

theorem blk3_at (c : Dev nD) (t : Fin cfg0.N) (z : Fin 1) (j : Fin 128) :
    iblk m c 3 t (ix2 z j) = V m c main_call0_v2 (ix2 z j) := by
  blk_ext [iblk, idx3 t]

end Cert.KernelIdeal.Seg
-- ==== Proof.Mean.lean ====
module

public import Idealize.ShloMosaic.Lib.Pointwise
public import Idealize.ShloMosaic.PureOps.Ideal

/-!
# The mean of each molecule's activations

The value that both programs compute in exact arithmetic. An atom's activations are a linear layer of its features cut off below at
zero; a molecule's result is the sum of its atoms' activations divided by the number of its atoms, and zero if it has none.
-/

@[expose] public section

noncomputable section

namespace Cert.KernelIdeal.Seg

open Idealize.ShloMosaic

variable (f : FVec Ideal ⟨2, ![320000, 128]⟩ .f32) (s : IVec ⟨1, ![320000]⟩ 32) (w : FVec Ideal ⟨2, ![128, 128]⟩ .f32) (b : FVec Ideal ⟨1, ![128]⟩ .f32)

/-- Activation `c` of atom `n`. -/
def hid (n : Fin 320000) (c : Fin 128) : EReal := max (∑ k : Fin 128, f (ix2 n k) * w (ix2 c k) + b (ix1 c)) 0

/-- The sum of activation `c` over the atoms of molecule `ρ`. -/
def tot (ρ : ℕ) (c : Fin 128) : EReal := ∑ n : Fin 320000, if (s (ix1 n)).toNat = ρ then hid f w b n c else 0

/-- The number of atoms of molecule `ρ`. -/
def num (ρ : ℕ) : EReal := ∑ n : Fin 320000, if (s (ix1 n)).toNat = ρ then 1 else 0

/-- The mean of activation `c` over the atoms of molecule `ρ`. -/
def mean (ρ : ℕ) (c : Fin 128) : EReal := if 0 < num s ρ then Ideal.div (tot f s w b ρ c) (max (num s ρ) 1) else 0

end Cert.KernelIdeal.Seg
-- ==== Proof.KernelValue.lean ====
module

public import proofs.«01_k».proof.Proof.Blocks
public import proofs.«01_k».proof.Proof.Mean

/-!
# The kernel's value

After point `n` the accumulators hold the sums and the counts over the first `16000 (n + 1)` atoms, so after the last point the sums
and the counts over all atoms, and the result is their quotient.
-/

@[expose] public section

set_option maxRecDepth 16384

noncomputable section

namespace Cert.KernelIdeal.Seg

open Idealize.ShloMosaic Idealize.ShloMosaic.TcCoe Idealize.SL.Sem
open Cert.KernelIdeal Cert.KernelIdeal.Gen

/-! ## The body's pure values, at an index -/

theorem pay12_at (x : Vec Ideal S16000x128 .f32) (y : Vec Ideal S128x128 .f32) (z : Vec Ideal S1x128 .f32) (a : Fin 16000) (c : Fin 128) :
    k0_pay12 x y z (ix2 a c) = max (∑ k : Fin 128, x (ix2 a k) * y (ix2 k c) + z (ix2 0 c)) 0 := by
  pointwise [k0_pay12]

theorem pay13_at (x : Vec Ideal S1x1x16000 .i32) (a : Fin 16000) : k0_pay13 (F := Ideal) x (ix1 a) = x (ix3 0 0 a) := by
  pointwise [k0_pay13]

theorem pay9_at (A C : Vec Ideal S10000x128 .f32) (r : Fin 10000) (c : Fin 128) :
    k0_pay9 A C (ix2 r c) = if 0 < C (ix2 r c) then Ideal.div (A (ix2 r c)) (max (C (ix2 r c)) 1) else 0 := by
  pointwise [k0_pay9]

theorem pay10_at (r : Fin 10128) (c : Fin 128) : k0_pay10 (F := Ideal) (ix2 r c) = 0 := by
  pointwise [k0_pay10]

theorem pay11_at (r : Fin 10128) (c : Fin 128) : k0_pay11 (F := Ideal) (ix2 r c) = 0 := by
  pointwise [k0_pay11]

theorem top_at (A : Vec Ideal S10128x128 .f32) (r : Fin 10000) (c : Fin 128) :
    top A (ix2 r c) = A (ix2 ⟨r.val, by have := r.isLt; omega⟩ c) := by
  unfold top
  congr 1
  funext x
  apply Fin.ext
  fin_cases x
  · show 0 + 1 * r.val = r.val
    omega
  · show 0 + 1 * c.val = c.val
    omega

/-! ## The blocks of a point -/

variable (m : (ℓ : Loc nD τ sig) → Buf (Elt Ideal) ℓ)

theorem atom_lt (t : Fin cfg0.N) (a : Fin 16000) : 16000 * t.val + a.val < 320000 := by
  have := lt_of_lt_of_eq t.isLt N_0
  have := a.isLt
  omega

theorem idsAt_at (c : Dev nD) (t : Fin cfg0.N) (a : Fin 16000) :
    idsAt m c t (ix1 a) = argS m c (ix1 ⟨16000 * t.val + a.val, atom_lt t a⟩) := by
  show k0_pay13 (F := Ideal) (iblk m c 0 t) (ix1 a) = _
  rw [pay13_at, blk0_at, V_s]

theorem hidAt_at (c : Dev nD) (t : Fin cfg0.N) (a : Fin 16000) (j : Fin 128) :
    hidAt m c t (ix2 a j) = hid (argF m c) (argW m c) (argB m c) ⟨16000 * t.val + a.val, atom_lt t a⟩ j := by
  show k0_pay12 (iblk m c 1 t) (iblk m c 2 t) (iblk m c 3 t) (ix2 a j) = _
  rw [pay12_at, blk3_at, V_b]
  unfold hid
  refine congrArg (fun e => max (e + argB m c (ix1 j)) 0) (Finset.sum_congr rfl fun k _ => ?_)
  rw [blk1_at, blk2_at, V_w, V_main_arg0]

/-- The ids of the argument are in range and never decrease. -/
def SortedIds : Prop := ∀ c : Dev nD, Sorted (n := 320000) (argS m c)

theorem sorted_ids (hs : SortedIds m) (c : Dev nD) (t : Fin cfg0.N) : Sorted (n := 16000) (idsAt m c t) where
  lt a := by rw [idsAt_at]; exact (hs c).lt _
  mono a b hab := by
    rw [idsAt_at, idsAt_at]
    exact (hs c).mono _ _ (by
      show 16000 * t.val + a.val ≤ 16000 * t.val + b.val
      have : a.val ≤ b.val := hab
      omega)

/-! ## The accumulators after each point -/

/-- `g` of atom `n` if its id is `ρ`, and zero if not, over the natural numbers. -/
def part (s : IVec S320000 32) (g : Fin 320000 → EReal) (ρ n : ℕ) : EReal :=
  if h : n < 320000 then if (s (ix1 ⟨n, h⟩)).toNat = ρ then g ⟨n, h⟩ else 0 else 0

theorem part_at (s : IVec S320000 32) (g : Fin 320000 → EReal) (ρ n : ℕ) (h : n < 320000) :
    part s g ρ n = if (s (ix1 ⟨n, h⟩)).toNat = ρ then g ⟨n, h⟩ else 0 := dif_pos h

/-- The sum of the parts over all atoms. -/
theorem sum_part (s : IVec S320000 32) (g : Fin 320000 → EReal) (ρ : ℕ) :
    ∑ n ∈ Finset.range 320000, part s g ρ n = ∑ n : Fin 320000, if (s (ix1 n)).toNat = ρ then g n else 0 := by
  rw [← Fin.sum_univ_eq_sum_range]
  exact Finset.sum_congr rfl fun n _ => part_at s g ρ n n.isLt

theorem accAt_at (hs : SortedIds m) (c : Dev nD) (ρ : Fin 10128) (j : Fin 128) : ∀ (n : ℕ) (h : n < cfg0.N),
    accAt m c n h (ix2 ρ j)
      = ∑ x ∈ Finset.range (16000 * (n + 1)), part (argS m c) (fun n => hid (argF m c) (argW m c) (argB m c) n j) ρ x
  | 0, h => by
    rw [accAt, accPt_at _ (sorted_ids m hs c ⟨0, h⟩) _ _ ρ j
      (fun x => part (argS m c) (fun n => hid (argF m c) (argW m c) (argB m c) n j) ρ x), pay10_at, zero_add]
    intro a
    rw [idsAt_at, hidAt_at, part_at _ _ _ _ (by have := a.isLt; omega)]
    simp only [Nat.mul_zero, Nat.zero_add]
  | n + 1, h => by
    rw [accAt, accPt_at _ (sorted_ids m hs c ⟨n + 1, h⟩) _ _ ρ j
      (fun x => part (argS m c) (fun n => hid (argF m c) (argW m c) (argB m c) n j) ρ (16000 * (n + 1) + x)),
      accAt_at hs c ρ j n, ← Finset.sum_range_add, Nat.mul_add 16000 (n + 1) 1]
    intro a
    rw [idsAt_at, hidAt_at, part_at _ _ _ _ (atom_lt ⟨n + 1, h⟩ a)]

theorem cntAt_at (hs : SortedIds m) (c : Dev nD) (ρ : Fin 10128) (j : Fin 128) : ∀ (n : ℕ) (h : n < cfg0.N),
    cntAt m c n h (ix2 ρ j) = ∑ x ∈ Finset.range (16000 * (n + 1)), part (argS m c) (fun _ => 1) ρ x
  | 0, h => by
    rw [cntAt, cntPt_at _ (sorted_ids m hs c ⟨0, h⟩) _ ρ j (fun x => part (argS m c) (fun _ => 1) ρ x), pay11_at, zero_add]
    intro a
    rw [idsAt_at, part_at _ _ _ _ (by have := a.isLt; omega)]
    simp only [Nat.mul_zero, Nat.zero_add]
  | n + 1, h => by
    rw [cntAt, cntPt_at _ (sorted_ids m hs c ⟨n + 1, h⟩) _ ρ j (fun x => part (argS m c) (fun _ => 1) ρ (16000 * (n + 1) + x)),
      cntAt_at hs c ρ j n, ← Finset.sum_range_add, Nat.mul_add 16000 (n + 1) 1]
    intro a
    rw [idsAt_at, part_at _ _ _ _ (atom_lt ⟨n + 1, h⟩ a)]

/-! ## The result -/

/-- The mean of each molecule's activations, as contents of the result. -/
def meanOf (c : Dev nD) : Vec Ideal S10000x128 .f32 := fun y => mean (argF m c) (argS m c) (argW m c) (argB m c) (y 0).val (y 1)

theorem last_lt : 19 < cfg0.N := by rw [show cfg0.N = 20 from N_0]; decide

/-- What the last point stores in the result is the mean. -/
theorem quotient_eq (hs : SortedIds m) (c : Dev nD) :
    k0_pay9 (top (accAt m c 19 last_lt)) (top (cntAt m c 19 last_lt)) = meanOf m c := by
  funext y
  idx_vars y
  rw [pay9_at, top_at, top_at, accAt_at m hs, cntAt_at m hs]
  show (if 0 < ∑ x ∈ Finset.range 320000, _ then Ideal.div (∑ x ∈ Finset.range 320000, _) (max (∑ x ∈ Finset.range 320000, _) 1) else 0) = _
  rw [sum_part, sum_part]
  rfl

/-- The result array after the run. -/
theorem result_eq (hs : SortedIds m) (c : Dev nD) : (dats m 0 c).arrAt 4 cfg0.N = meanOf m c := by
  have e : (dats m 0 c).after 4 ⟨19, last_lt⟩ = meanOf m c := by rw [after_4, quotient_eq m hs c]
  refine (dats m 0 c).arrAt_eq_of_after_last 4 ⟨19, last_lt⟩ (by decide +kernel) _ fun j => ?_
  blk_simp
  exact congrFun e _

/-- Every run of the kernel's idealization leaves the mean in the result and the arguments as they were. -/
theorem run_kernel (g : Dev nD → PrngReg) (hs : SortedIds m) :
    θ_run (defs (F := Ideal)) (onTc (τ := τ) (main (F := Ideal))) ⟨m, fun _ => 0, g⟩ (fun r => ∀ c : Dev nD,
      r.2.mem ((c.tc : Thread nD τ).loc main_v0) = meanOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hr : InRange m := fun c y => by
    have e : y = ix1 (y 0) := by funext x; fin_cases x; rfl
    rw [e]
    exact (hs c).lt (y 0)
  refine (θ_run _ _ _).mono (fun r h c => ⟨?_, h.2.1 c⟩) (θ_run_and (run_main m g hr) (frame_main m g hr))
  exact (h.1.1.out_eq c 4).trans (result_eq m hs c)

end Cert.KernelIdeal.Seg
-- ==== Proof.Scatter.lean ====
module

public import proofs.«01_k».proof.Proof.Gen.ReferenceIdeal
public import Idealize.ShloMosaic.Lib.Pointwise
public import Idealize.ShloMosaic.Lib.Routing.OpsPair
public import Idealize.ShloMosaic.PureOps.Ideal

/-!
# The reference's two accumulating scatters

In exact arithmetic the first one adds to element `(ρ, c)` the updates `(n, c)` of the atoms `n` whose index is `ρ`, the second one
to element `ρ` the updates of those atoms.
-/

@[expose] public section

set_option maxRecDepth 16384

noncomputable section

namespace Cert.KernelIdeal.Seg

open Idealize.ShloMosaic Cert.ReferenceIdeal Cert.ReferenceIdeal.Gen

/-- The scatter of rows, and the scatter of numbers. -/
abbrev rowScatter : ScatterDims S10000x128 S320000x1 S320000x128 := scatter_S10000x128_S320000x1_S320000x128_1_0_0_1
abbrev numScatter : ScatterDims S10000 S320000x1 S320000 := scatter_S10000_S320000x1_S320000_n_0_0_1

theorem rowScatter_siIdx (n : Fin 320000) (c : Fin 128) (z) : rowScatter.siIdx (ix2 n c) z = ix2 n (0 : Fin 1) := by
  funext x
  fin_cases x
  · rfl
  · apply Fin.ext
    show z.val = 0
    have : z.val < 1 := z.isLt
    omega

theorem numScatter_siIdx (n : Fin 320000) (z) : numScatter.siIdx (ix1 n) z = ix2 n (0 : Fin 1) := by
  funext x
  fin_cases x
  · rfl
  · apply Fin.ext
    show z.val = 0
    have : z.val < 1 := z.isLt
    omega

/-- Where an update of the scatter of rows lands. -/
theorem rowScatter_lands (idx : IVec S320000x1 32) (n : Fin 320000) (c : Fin 128) (ρ : Fin 10000) (c' : Fin 128) :
    rowScatter.resultIdx? (ix2 n c) idx = some (ix2 ρ c') ↔ (idx (ix2 n 0)).toInt = ρ.val ∧ c = c' := by
  have s0 : rowScatter.start (ix2 n c) idx 0 = (idx (ix2 n 0)).toInt := by
    unfold ScatterDims.start
    rw [dif_pos (by decide), rowScatter_siIdx]
  have s1 : rowScatter.start (ix2 n c) idx 1 = 0 := by
    unfold ScatterDims.start
    rw [dif_neg (by decide)]
  have w0 : rowScatter.window (ix2 n c) 0 = 0 := rfl
  have w1 : rowScatter.window (ix2 n c) 1 = c.val := rfl
  rw [Routing.resultIdx?_eq_some]
  constructor
  · intro h
    have h0 := h 0
    have h1 := h 1
    rw [s0, w0] at h0
    rw [s1, w1] at h1
    refine ⟨?_, Fin.ext ?_⟩
    · have : ((ix2 ρ c' : S10000x128.Idx) 0).val = ρ.val := rfl
      omega
    · have : ((ix2 ρ c' : S10000x128.Idx) 1).val = c'.val := rfl
      omega
  · rintro ⟨h, rfl⟩ x
    fin_cases x
    · show rowScatter.start (ix2 n c) idx 0 + (rowScatter.window (ix2 n c) 0 : ℤ) = (ρ.val : ℤ)
      rw [s0, w0, h]
      omega
    · show rowScatter.start (ix2 n c) idx 1 + (rowScatter.window (ix2 n c) 1 : ℤ) = (c.val : ℤ)
      rw [s1, w1]
      omega

/-- Where an update of the scatter of numbers lands. -/
theorem numScatter_lands (idx : IVec S320000x1 32) (n : Fin 320000) (ρ : Fin 10000) :
    numScatter.resultIdx? (ix1 n) idx = some (ix1 ρ) ↔ (idx (ix2 n 0)).toInt = ρ.val := by
  have s0 : numScatter.start (ix1 n) idx 0 = (idx (ix2 n 0)).toInt := by
    unfold ScatterDims.start
    rw [dif_pos (by decide), numScatter_siIdx]
  have w0 : numScatter.window (ix1 n) 0 = 0 := rfl
  rw [Routing.resultIdx?_eq_some]
  constructor
  · intro h
    have h0 := h 0
    rw [s0, w0] at h0
    have : ((ix1 ρ : S10000.Idx) 0).val = ρ.val := rfl
    omega
  · intro h x
    fin_cases x
    show numScatter.start (ix1 n) idx 0 + (numScatter.window (ix1 n) 0 : ℤ) = (ρ.val : ℤ)
    rw [s0, w0, h]
    omega

/-- The scatter of rows at an element. -/
theorem rowScatter_at (x : FVec Ideal S10000x128 .f32) (idx : IVec S320000x1 32) (u : FVec Ideal S320000x128 .f32) (ρ : Fin 10000) (c : Fin 128) :
    Host.scatterAdd rowScatter x idx u (ix2 ρ c)
      = x (ix2 ρ c) + ∑ n : Fin 320000, if (idx (ix2 n 0)).toInt = ρ.val then u (ix2 n c) else 0 := by
  show x (ix2 ρ c) + ∑ j ∈ Finset.univ.filter (fun j => rowScatter.resultIdx? j idx = some (ix2 ρ c)), u j = _
  refine congrArg (x (ix2 ρ c) + ·) ?_
  rw [← Finset.sum_filter]
  symm
  refine Finset.sum_bij (fun n _ => ix2 n c) ?_ ?_ ?_ ?_
  · intro n hn
    rw [Finset.mem_filter] at hn ⊢
    exact ⟨Finset.mem_univ _, (rowScatter_lands idx n c ρ c).mpr ⟨hn.2, rfl⟩⟩
  · intro n _ n' _ h
    exact congrFun h 0
  · intro j hj
    idx_vars j
    rw [Finset.mem_filter] at hj
    obtain ⟨h, rfl⟩ := (rowScatter_lands idx _ _ ρ c).mp hj.2
    exact ⟨_, Finset.mem_filter.mpr ⟨Finset.mem_univ _, h⟩, rfl⟩
  · intro _ _
    rfl

/-- The scatter of numbers at an element. -/
theorem numScatter_at (x : FVec Ideal S10000 .f32) (idx : IVec S320000x1 32) (u : FVec Ideal S320000 .f32) (ρ : Fin 10000) :
    Host.scatterAdd numScatter x idx u (ix1 ρ)
      = x (ix1 ρ) + ∑ n : Fin 320000, if (idx (ix2 n 0)).toInt = ρ.val then u (ix1 n) else 0 := by
  show x (ix1 ρ) + ∑ j ∈ Finset.univ.filter (fun j => numScatter.resultIdx? j idx = some (ix1 ρ)), u j = _
  refine congrArg (x (ix1 ρ) + ·) ?_
  rw [← Finset.sum_filter]
  symm
  refine Finset.sum_bij (fun n _ => ix1 n) ?_ ?_ ?_ ?_
  · intro n hn
    rw [Finset.mem_filter] at hn ⊢
    exact ⟨Finset.mem_univ _, (numScatter_lands idx n ρ).mpr hn.2⟩
  · intro n _ n' _ h
    exact congrFun h 0
  · intro j hj
    idx_vars j
    rw [Finset.mem_filter] at hj
    have h := (numScatter_lands idx _ ρ).mp hj.2
    exact ⟨_, Finset.mem_filter.mpr ⟨Finset.mem_univ _, h⟩, rfl⟩
  · intro _ _
    rfl

end Cert.KernelIdeal.Seg
-- ==== Proof.Reference.lean ====
module

public import proofs.«01_k».proof.Proof.Scatter
public import proofs.«01_k».proof.Proof.Mean
public import proofs.«01_k».proof.Proof.Gen.ReferenceIdeal.Run
public import Idealize.ShloMosaic.Lib.MatmulPlain
public import Idealize.ShloMosaic.Lib.IdealHost

/-!
# The reference's value

The reference's result is the mean of each molecule's activations, for ids in `[0, 10000)`.
-/

@[expose] public section

set_option maxRecDepth 16384

noncomputable section

namespace Cert.KernelIdeal.Seg

open Idealize.ShloMosaic Idealize.ShloMosaic.TcCoe Idealize.SL.Sem
open Cert.ReferenceIdeal Cert.ReferenceIdeal.Gen

/-- The activations as the reference computes them. -/
def refHid (f : FVec Ideal S320000x128 .f32) (w : FVec Ideal S128x128 .f32) (b : FVec Ideal S128 .f32) : FVec Ideal S320000x128 .f32 :=
  maximumf (addf (Host.dotGeneral dot_S320000x128_S128x128_S320000x128_1_0_0_1_n_n none f (transpose S128x128 [1, 0] w transposes_S128x128_S128x128_1_0))
    (broadcastInDim S320000x128 ![0, 1] bcast_S1x128_S320000x128_0_1 (broadcastInDim S1x128 ![1] bcast_S128_S1x128_1 b)))
    (broadcastInDim S320000x128 ![] bcast_S_S320000x128 (constant S_ .f32 0x00000000#32))

/-- The ids as a column. -/
def refIds (s : IVec S320000 32) : IVec S320000x1 32 := broadcastInDim S320000x1 ![0] bcast_S320000_S320000x1_0 s

/-- The reference's sums, -/
def refSum (f : FVec Ideal S320000x128 .f32) (s : IVec S320000 32) (w : FVec Ideal S128x128 .f32) (b : FVec Ideal S128 .f32) : FVec Ideal S10000x128 .f32 :=
  Host.scatterAdd rowScatter (broadcastInDim S10000x128 ![] bcast_S_S10000x128 (constant S_ .f32 0x00000000#32)) (refIds s) (refHid f w b)

/-- its counts, -/
def refNum (s : IVec S320000 32) : FVec Ideal S10000 .f32 :=
  Host.scatterAdd numScatter (broadcastInDim S10000 ![] bcast_S_S10000 (constant S_ .f32 0x00000000#32)) (refIds s)
    (broadcastInDim S320000 ![] bcast_S_S320000 (constant S_ .f32 0x3F800000#32))

/-- and its result, from the sums and the counts. -/
def refOut (A : FVec Ideal S10000x128 .f32) (N : FVec Ideal S10000 .f32) : FVec Ideal S10000x128 .f32 :=
  select (broadcastInDim S10000x128 ![0, 1] bcast_S10000x1_S10000x128_0_1
      (cmpf .ogt (broadcastInDim S10000x1 ![0] bcast_S10000_S10000x1_0 N) (broadcastInDim S10000x1 ![] bcast_S_S10000x1 (constant S_ .f32 0x00000000#32))))
    (Host.divf A (broadcastInDim S10000x128 ![0, 1] bcast_S10000x1_S10000x128_0_1 (broadcastInDim S10000x1 ![0] bcast_S10000_S10000x1_0
      (maximumf N (broadcastInDim S10000 ![] bcast_S_S10000 (constant S_ .f32 0x3F800000#32))))))
    (broadcastInDim S10000x128 ![0, 1] bcast_S1x128_S10000x128_0_1 (broadcastInDim S1x128 ![] bcast_S_S1x128 (constant S_ .f32 0x00000000#32)))

/-! ## At an index -/

theorem refHid_at (f : FVec Ideal S320000x128 .f32) (w : FVec Ideal S128x128 .f32) (b : FVec Ideal S128 .f32) (n : Fin 320000) (c : Fin 128) :
    refHid f w b (ix2 n c) = hid f w b n c := by
  pointwise [refHid]
  rfl

theorem refIds_at (s : IVec S320000 32) (n : Fin 320000) (z : Fin 1) : refIds s (ix2 n z) = s (ix1 n) := by
  pointwise [refIds]

theorem refOut_at (A : FVec Ideal S10000x128 .f32) (N : FVec Ideal S10000 .f32) (r : Fin 10000) (c : Fin 128) :
    refOut A N (ix2 r c) = if 0 < N (ix1 r) then Ideal.div (A (ix2 r c)) (max (N (ix1 r)) 1) else 0 := by
  pointwise [refOut]

/-- An id below 10000 is the same number with and without its sign. -/
theorem toInt_iff (x : BitVec 32) (hx : x.toNat < 10000) (ρ : ℕ) : x.toInt = (ρ : ℤ) ↔ x.toNat = ρ := by
  rw [BitVec.toInt]
  omega

theorem refSum_at (f : FVec Ideal S320000x128 .f32) (s : IVec S320000 32) (w : FVec Ideal S128x128 .f32) (b : FVec Ideal S128 .f32)
    (hs : ∀ y, (s y).toNat < 10000) (r : Fin 10000) (c : Fin 128) : refSum f s w b (ix2 r c) = tot f s w b r c := by
  unfold refSum
  rw [rowScatter_at]
  pointwise
  unfold tot
  refine Finset.sum_congr rfl fun n _ => ?_
  rw [refHid_at, refIds_at]
  exact if_congr (toInt_iff _ (hs _) _) rfl rfl

theorem refNum_at (s : IVec S320000 32) (hs : ∀ y, (s y).toNat < 10000) (r : Fin 10000) : refNum s (ix1 r) = num s r := by
  unfold refNum
  rw [numScatter_at]
  pointwise
  unfold num
  refine Finset.sum_congr rfl fun n _ => ?_
  rw [refIds_at]
  exact if_congr (toInt_iff _ (hs _) _) rfl rfl

/-- The reference's result is the mean. -/
theorem refOut_eq (f : FVec Ideal S320000x128 .f32) (s : IVec S320000 32) (w : FVec Ideal S128x128 .f32) (b : FVec Ideal S128 .f32)
    (hs : ∀ y, (s y).toNat < 10000) : refOut (refSum f s w b) (refNum s) = fun y => mean f s w b (y 0).val (y 1) := by
  funext y
  idx_vars y
  rw [refOut_at, refSum_at f s w b hs, refNum_at s hs]
  rfl

/-- Every run of the reference leaves the mean in its result and the arguments as they were. -/
theorem run_reference (m : (ℓ : Loc nD τ sig) → Buf (Elt Ideal) ℓ) (g : Dev nD → PrngReg)
    (hs : ∀ (c : Dev nD) (y : S320000.Idx), (m ((c.tc : Thread nD τ).loc main_arg1) y : BitVec 32).toNat < 10000) :
    θ_run (defs (F := Ideal)) (onTc (τ := τ) (main (F := Ideal))) ⟨m, fun _ => 0, g⟩ (fun r => ∀ c : Dev nD,
      r.2.mem ((c.tc : Thread nD τ).loc main_v22)
        = (fun y => mean (m ((c.tc : Thread nD τ).loc main_arg0)) (m ((c.tc : Thread nD τ).loc main_arg1)) (m ((c.tc : Thread nD τ).loc main_arg2))
            (m ((c.tc : Thread nD τ).loc main_arg3)) (y 0).val (y 1) : FVec Ideal S10000x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨(h c).1.trans (refOut_eq (m ((c.tc : Thread nD τ).loc main_arg0)) (m ((c.tc : Thread nD τ).loc main_arg1))
    (m ((c.tc : Thread nD τ).loc main_arg2)) (m ((c.tc : Thread nD τ).loc main_arg3)) (hs c)), (h c).2⟩) (Cert.ReferenceIdeal.Value.run m g)

end Cert.KernelIdeal.Seg
-- ==== Proof.Equation.lean ====
module

public import proofs.«01_k».proof.Proof.Range
public import proofs.«01_k».proof.Proof.KernelValue
public import proofs.«01_k».proof.Proof.Reference

/-!
# The equation

From the same arguments, with sorted ids in range, the kernel's idealization and the reference end with the same result: the mean of
each molecule's activations.
-/

@[expose] public section

set_option maxRecDepth 16384

noncomputable section

namespace Cert.KernelIdeal.Seg

open Idealize.ShloMosaic Idealize.ShloMosaic.TcCoe Idealize.SL.Sem

/-- The precondition gives sorted ids in range. -/
theorem sorted_of_pre (m : (ℓ : Loc Cert.KernelIdeal.nD Cert.KernelIdeal.τ Cert.KernelIdeal.sig) → Buf (Elt Ideal) ℓ)
    (h : Cert.Pre_KernelIdeal_ids_sorted_in_range m) : SortedIds m := fun c =>
  { lt := fun a => bound_of_sorted _ _ _ _ (h c) (ix1 a)
    mono := fun a b hab => mono_of_sorted _ _ _ _ (h c) a b hab }

/-- The kernel's idealization and the reference agree. -/
theorem equation : Cert.algebraic_KernelIdeal_ReferenceIdeal_pre_ids_sorted_in_range := by
  intro m g m' g' hpre hargs
  refine ⟨meanOf m, run_kernel m g (sorted_of_pre m hpre), ?_⟩
  refine (θ_run _ _ _).mono (fun r h c => ⟨(h c).1.trans ?_, (h c).2⟩) (run_reference m' g' fun c y => ?_)
  · rw [(hargs c).2.1]
    exact bound_of_sorted _ _ _ _ (hpre c) y
  · obtain ⟨h0, h1, h2, h3⟩ := hargs c
    rw [h0, h1, h2, h3]
    rfl

end Cert.KernelIdeal.Seg
-- ==== Proof.lean ====
/- The proof of the claims about the kernel, its idealization and the reference. -/
module

public import proofs.«01_k».proof.Defs
public import proofs.«01_k».proof.Proof.Frames
public import proofs.«01_k».proof.Proof.Equation

@[expose] public section

noncomputable section

namespace Cert.Proof

open Cert.KernelIdeal.Seg

theorem claim : Cert.Claim := ⟨Cert.Kernel.Gen.facts, Cert.KernelIdeal.Gen.facts, Cert.ReferenceIdeal.Gen.facts, Cert.Pre_ids_in_range.Gen.facts, Cert.Pre_ids_sorted_in_range.Gen.facts,
  frame_kernel, frame_ideal, frame_ideal_sorted, frame_reference, frame_reference_sorted, trivial, equation⟩

end Cert.Proof

end
